-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_QuantW (m : (ℓ : Loc Cert.QuantW.nD Cert.QuantW.τ Cert.QuantW.sig) → Buf (Elt Bits) ℓ) : Prop :=
  True

def Pre_QuantWIdeal (m : (ℓ : Loc Cert.QuantWIdeal.nD Cert.QuantWIdeal.τ Cert.QuantWIdeal.sig) → Buf (Elt Ideal) ℓ) : Prop :=
  True

def Pre_QuantWIdeal_in_range_w [hPre_in_range_w : Cert.Pre_in_range_w.Facts] (m : (ℓ : Loc Cert.QuantWIdeal.nD Cert.QuantWIdeal.τ Cert.QuantWIdeal.sig) → Buf (Elt Ideal) ℓ) : Prop :=
  ∀ c : Dev Cert.QuantWIdeal.nD,
    (Cert.Pre_in_range_w.fn (F := Ideal) (m ((c.tc : Thread Cert.QuantWIdeal.nD Cert.QuantWIdeal.τ).loc Cert.QuantWIdeal.main_arg0))) = (fun _ => 1#1)

def Pre_ReferenceWIdeal (m : (ℓ : Loc Cert.ReferenceWIdeal.nD Cert.ReferenceWIdeal.τ Cert.ReferenceWIdeal.sig) → Buf (Elt Ideal) ℓ) : Prop :=
  True

def Pre_ReferenceWIdeal_in_range_w [hPre_in_range_w : Cert.Pre_in_range_w.Facts] (m : (ℓ : Loc Cert.ReferenceWIdeal.nD Cert.ReferenceWIdeal.τ Cert.ReferenceWIdeal.sig) → Buf (Elt Ideal) ℓ) : Prop :=
  ∀ c : Dev Cert.ReferenceWIdeal.nD,
    (Cert.Pre_in_range_w.fn (F := Ideal) (m ((c.tc : Thread Cert.ReferenceWIdeal.nD Cert.ReferenceWIdeal.τ).loc Cert.ReferenceWIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0))
      ∧ r.2.sem = fun _ => 0)

def quiescent_QuantWIdeal [hQuantWIdeal : Cert.QuantWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ r.2.sem = fun _ => 0)

def quiescent_QuantWIdeal_pre_in_range_w [hQuantWIdeal : Cert.QuantWIdeal.Facts] [hPre_in_range_w : Cert.Pre_in_range_w.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal_in_range_w m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0))
      ∧ r.2.sem = fun _ => 0)

def quiescent_ReferenceWIdeal_pre_in_range_w [hReferenceWIdeal : Cert.ReferenceWIdeal.Facts] [hPre_in_range_w : Cert.Pre_in_range_w.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal_in_range_w m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_QuantW_QuantWIdeal : Prop :=
  True

def algebraic_QuantWIdeal_ReferenceWIdeal_pre_in_range_w [hQuantWIdeal : Cert.QuantWIdeal.Facts] [hReferenceWIdeal : Cert.ReferenceWIdeal.Facts] [hPre_in_range_w : Cert.Pre_in_range_w.Facts] : Prop :=
  ∀ (m : (ℓ : Loc Cert.QuantWIdeal.nD Cert.QuantWIdeal.τ Cert.QuantWIdeal.sig) → Buf (Elt Ideal) ℓ) (g : Dev Cert.QuantWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_QuantWIdeal_in_range_w m →
    (∀ c : Dev Cert.QuantWIdeal.nD,
      m' ((c.tc : Thread Cert.ReferenceWIdeal.nD Cert.ReferenceWIdeal.τ).loc Cert.ReferenceWIdeal.main_arg0) = m ((c.tc : Thread Cert.QuantWIdeal.nD Cert.QuantWIdeal.τ).loc Cert.QuantWIdeal.main_arg0)) →
    ∃ (v0 : (c : Dev Cert.QuantWIdeal.nD) → Buf (Elt Ideal) ((c.tc : Thread Cert.QuantWIdeal.nD Cert.QuantWIdeal.τ).loc Cert.QuantWIdeal.main_v0_0)) (v1 : (c : Dev Cert.QuantWIdeal.nD) → Buf (Elt Ideal) ((c.tc : Thread Cert.QuantWIdeal.nD Cert.QuantWIdeal.τ).loc Cert.QuantWIdeal.main_v0_1)) (v2 : (c : Dev Cert.QuantWIdeal.nD) → Buf (Elt Ideal) ((c.tc : Thread Cert.QuantWIdeal.nD Cert.QuantWIdeal.τ).loc Cert.QuantWIdeal.main_v0_2)),
      θ_run (Cert.QuantWIdeal.defs (F := Ideal)) (onTc (τ := Cert.QuantWIdeal.τ) (Cert.QuantWIdeal.main (F := Ideal))) ⟨m, fun _ => 0, g⟩ (fun r => ∀ c : Dev Cert.QuantWIdeal.nD,
          r.2.mem ((c.tc : Thread Cert.QuantWIdeal.nD Cert.QuantWIdeal.τ).loc Cert.QuantWIdeal.main_v0_0) = v0 c
          ∧ r.2.mem ((c.tc : Thread Cert.QuantWIdeal.nD Cert.QuantWIdeal.τ).loc Cert.QuantWIdeal.main_v0_1) = v1 c
          ∧ r.2.mem ((c.tc : Thread Cert.QuantWIdeal.nD Cert.QuantWIdeal.τ).loc Cert.QuantWIdeal.main_v0_2) = v2 c
          ∧ r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v0_0) = v0 c
          ∧ r.2.mem ((c.tc : Thread Cert.ReferenceWIdeal.nD Cert.ReferenceWIdeal.τ).loc Cert.ReferenceWIdeal.main_v0_1) = v1 c
          ∧ r.2.mem ((c.tc : Thread Cert.ReferenceWIdeal.nD Cert.ReferenceWIdeal.τ).loc Cert.ReferenceWIdeal.main_v0_2) = v2 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0))

def Claim : Prop :=
  ∃ (hKernel : Cert.Kernel.Facts) (hKernelIdeal : Cert.KernelIdeal.Facts) (hReferenceIdeal : Cert.ReferenceIdeal.Facts) (hQuantW : Cert.QuantW.Facts) (hQuantWIdeal : Cert.QuantWIdeal.Facts) (hReferenceWIdeal : Cert.ReferenceWIdeal.Facts) (hPre_in_range : Cert.Pre_in_range.Facts) (hPre_in_range_w : Cert.Pre_in_range_w.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_QuantW (hQuantW := hQuantW)
    ∧ quiescent_QuantWIdeal (hQuantWIdeal := hQuantWIdeal)
    ∧ quiescent_QuantWIdeal_pre_in_range_w (hQuantWIdeal := hQuantWIdeal) (hPre_in_range_w := hPre_in_range_w)
    ∧ quiescent_ReferenceWIdeal (hReferenceWIdeal := hReferenceWIdeal)
    ∧ quiescent_ReferenceWIdeal_pre_in_range_w (hReferenceWIdeal := hReferenceWIdeal) (hPre_in_range_w := hPre_in_range_w)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_QuantW_QuantWIdeal
    ∧ algebraic_QuantWIdeal_ReferenceWIdeal_pre_in_range_w (hQuantWIdeal := hQuantWIdeal) (hReferenceWIdeal := hReferenceWIdeal) (hPre_in_range_w := hPre_in_range_w)
-- ==== Pre_in_range.lean ====
abbrev S24x1024x1536 : Shape := ⟨3, ![24, 1024, 1536]⟩
abbrev S8960x1536 : Shape := ⟨2, ![8960, 1536]⟩
abbrev S_ : Shape := ⟨0, ![]⟩

class Facts : Prop where
  bcast_S_S24x1024x1536 : S_.BroadcastsInDim S24x1024x1536 (![] : Fin 0 → Fin S24x1024x1536.rank)
  reducesTo_S24x1024x1536_S_d0_1_2 : S24x1024x1536.ReducesTo [0, 1, 2] S_
  h_S_ : 0 < S_.numel

variable [Facts]

def fn {F : FTy → Type} [FloatOps F] (main_arg0 : FVec F S24x1024x1536 .bf16) (main_arg1 : FVec F S8960x1536 .bf16) : IVec S_ 1 :=
  let main_v0 : FVec F S24x1024x1536 .bf16 := Host.absf main_arg0
  let main_cst : FVec F S_ .bf16 := constant S_ .bf16 0x7F7F#16
  let main_v1 : FVec F S24x1024x1536 .bf16 := broadcastInDim S24x1024x1536 ![] bcast_S_S24x1024x1536 main_cst
  let main_v2 : IVec S24x1024x1536 1 := cmpf .ole main_v0 main_v1
  let main_cst_0 : FVec F S_ .bf16 := constant S_ .bf16 0x7F80#16
  let main_v3 : FVec F S24x1024x1536 .bf16 := broadcastInDim S24x1024x1536 ![] bcast_S_S24x1024x1536 main_cst_0
  let main_v4 : IVec S24x1024x1536 1 := cmpf .oeq main_v0 main_v3
  let main_v5 : IVec S24x1024x1536 1 := ori main_v2 main_v4
  let main_c : IVec S_ 1 := constantI S_ 1 1#1
  let main_v6 : IVec S_ 1 := (fun x v => Host.reduce IntOp.andi x v reducesTo_S24x1024x1536_S_d0_1_2 h_S_) main_v5 main_c
  main_v6
-- ==== Pre_in_range_w.lean ====
abbrev S8960x1536 : Shape := ⟨2, ![8960, 1536]⟩
abbrev S_ : Shape := ⟨0, ![]⟩

class Facts : Prop where
  bcast_S_S8960x1536 : S_.BroadcastsInDim S8960x1536 (![] : Fin 0 → Fin S8960x1536.rank)
  reducesTo_S8960x1536_S_d0_1 : S8960x1536.ReducesTo [0, 1] S_
  h_S_ : 0 < S_.numel

variable [Facts]

def fn {F : FTy → Type} [FloatOps F] (main_arg0 : FVec F S8960x1536 .bf16) : IVec S_ 1 :=
  let main_v0 : FVec F S8960x1536 .bf16 := Host.absf main_arg0
  let main_cst : FVec F S_ .bf16 := constant S_ .bf16 0x7F7F#16
  let main_v1 : FVec F S8960x1536 .bf16 := broadcastInDim S8960x1536 ![] bcast_S_S8960x1536 main_cst
  let main_v2 : IVec S8960x1536 1 := cmpf .ole main_v0 main_v1
  let main_cst_0 : FVec F S_ .bf16 := constant S_ .bf16 0x7F80#16
  let main_v3 : FVec F S8960x1536 .bf16 := broadcastInDim S8960x1536 ![] bcast_S_S8960x1536 main_cst_0
  let main_v4 : IVec S8960x1536 1 := cmpf .oeq main_v0 main_v3
  let main_v5 : IVec S8960x1536 1 := ori main_v2 main_v4
  let main_c : IVec S_ 1 := constantI S_ 1 1#1
  let main_v6 : IVec S_ 1 := (fun x v => Host.reduce IntOp.andi x v reducesTo_S8960x1536_S_d0_1 h_S_) main_v5 main_c
  main_v6
-- ==== Kernel.lean ====
abbrev S24x1024x1536 : Shape := ⟨3, ![24, 1024, 1536]⟩
abbrev S8960x1536 : Shape := ⟨2, ![8960, 1536]⟩
abbrev S24576x1536 : Shape := ⟨2, ![24576, 1536]⟩
abbrev S24576x8960 : Shape := ⟨2, ![24576, 8960]⟩
abbrev S24576x12 : Shape := ⟨2, ![24576, 12]⟩
abbrev S512x1536 : Shape := ⟨2, ![512, 1536]⟩
abbrev S512x8960 : Shape := ⟨2, ![512, 8960]⟩
abbrev S512x12 : Shape := ⟨2, ![512, 12]⟩
abbrev S512x128 : Shape := ⟨2, ![512, 128]⟩
abbrev S512 : Shape := ⟨1, ![512]⟩
abbrev S512x1 : Shape := ⟨2, ![512, 1]⟩
abbrev S1x255 : Shape := ⟨2, ![1, 255]⟩
abbrev S512x255 : Shape := ⟨2, ![512, 255]⟩
abbrev S1280x1536 : Shape := ⟨2, ![1280, 1536]⟩
abbrev S512x1280 : Shape := ⟨2, ![512, 1280]⟩

abbrev nBuf : Space → Nat
  | .hbm => 6
  | .vmem => 10
  | .smem => 0
  | _ => 0

abbrev bufTy : (tb : Table) → Fin (tcTables nBuf tb) → BufTy
  | .hbm, ⟨0, _⟩ => ⟨S24x1024x1536, .bf16⟩
  | .hbm, ⟨1, _⟩ => ⟨S8960x1536, .bf16⟩
  | .hbm, ⟨2, _⟩ => ⟨S24576x1536, .bf16⟩
  | .hbm, ⟨3, _⟩ => ⟨S24576x8960, .bf16⟩
  | .hbm, ⟨4, _⟩ => ⟨S24576x1536, .fp8e4m3⟩
  | .hbm, ⟨5, _⟩ => ⟨S24576x12, .f32⟩
  | .local _ .vmem, ⟨0, _⟩ => ⟨S512x1536, .bf16⟩
  | .local _ .vmem, ⟨1, _⟩ => ⟨S512x1536, .bf16⟩
  | .local _ .vmem, ⟨2, _⟩ => ⟨S8960x1536, .bf16⟩
  | .local _ .vmem, ⟨3, _⟩ => ⟨S512x8960, .bf16⟩
  | .local _ .vmem, ⟨4, _⟩ => ⟨S512x8960, .bf16⟩
  | .local _ .vmem, ⟨5, _⟩ => ⟨S512x1536, .fp8e4m3⟩
  | .local _ .vmem, ⟨6, _⟩ => ⟨S512x1536, .fp8e4m3⟩
  | .local _ .vmem, ⟨7, _⟩ => ⟨S512x12, .f32⟩
  | .local _ .vmem, ⟨8, _⟩ => ⟨S512x12, .f32⟩
  | .local _ .vmem, ⟨9, _⟩ => ⟨S512x1536, .bf16⟩
  | _, _ => ⟨S24x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8960x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8960 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1024x1536 : Shape := ⟨3, ![24, 1024, 1536]⟩
abbrev S8960x1536 : Shape := ⟨2, ![8960, 1536]⟩
abbrev S24576x1536 : Shape := ⟨2, ![24576, 1536]⟩
abbrev S24576x8960 : Shape := ⟨2, ![24576, 8960]⟩
abbrev S24576x12 : Shape := ⟨2, ![24576, 12]⟩
abbrev S24576x12x128 : Shape := ⟨3, ![24576, 12, 128]⟩
abbrev S24576x12x1 : Shape := ⟨3, ![24576, 12, 1]⟩

abbrev nBuf : Space → Nat
  | .hbm => 6
  | .vmem => 5
  | .smem => 0
  | _ => 0

abbrev bufTy : (tb : Table) → Fin (tcTables nBuf tb) → BufTy
  | .hbm, ⟨0, _⟩ => ⟨S24x1024x1536, .bf16⟩
  | .hbm, ⟨1, _⟩ => ⟨S8960x1536, .bf16⟩
  | .hbm, ⟨2, _⟩ => ⟨S24576x1536, .bf16⟩
  | .hbm, ⟨3, _⟩ => ⟨S24576x8960, .bf16⟩
  | .hbm, ⟨4, _⟩ => ⟨S24576x1536, .fp8e4m3⟩
  | .hbm, ⟨5, _⟩ => ⟨S24576x12, .f32⟩
  | .local _ .vmem, ⟨0, _⟩ => ⟨S24576x1536, .bf16⟩
  | .local _ .vmem, ⟨1, _⟩ => ⟨S8960x1536, .bf16⟩
  | .local _ .vmem, ⟨2, _⟩ => ⟨S24576x8960, .bf16⟩
  | .local _ .vmem, ⟨3, _⟩ => ⟨S24576x1536, .fp8e4m3⟩
  | .local _ .vmem, ⟨4, _⟩ => ⟨S24576x12, .f32⟩
  | _, _ => ⟨S24x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QuantW.lean ====
abbrev S8960x1536 : Shape := ⟨2, ![8960, 1536]⟩
abbrev S70x12 : Shape := ⟨2, ![70, 12]⟩
abbrev S896x1536 : Shape := ⟨2, ![896, 1536]⟩
abbrev S1x12 : Shape := ⟨2, ![1, 12]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S1x255 : Shape := ⟨2, ![1, 255]⟩

abbrev nBuf : Space → Nat
  | .hbm => 4
  | .vmem => 7
  | .smem => 0
  | _ => 0

abbrev bufTy : (tb : Table) → Fin (tcTables nBuf tb) → BufTy
  | .hbm, ⟨0, _⟩ => ⟨S8960x1536, .bf16⟩
  | .hbm, ⟨1, _⟩ => ⟨S8960x1536, .fp8e4m3⟩
  | .hbm, ⟨2, _⟩ => ⟨S70x12, .f32⟩
  | .hbm, ⟨3, _⟩ => ⟨S8960x1536, .bf16⟩
  | .local _ .vmem, ⟨0, _⟩ => ⟨S896x1536, .bf16⟩
  | .local _ .vmem, ⟨1, _⟩ => ⟨S896x1536, .bf16⟩
  | .local _ .vmem, ⟨2, _⟩ => ⟨S896x1536, .fp8e4m3⟩
  | .local _ .vmem, ⟨3, _⟩ => ⟨S896x1536, .fp8e4m3⟩
  | .local _ .vmem, ⟨4, _⟩ => ⟨S70x12, .f32⟩
  | .local _ .vmem, ⟨5, _⟩ => ⟨S896x1536, .bf16⟩
  | .local _ .vmem, ⟨6, _⟩ => ⟨S896x1536, .bf16⟩
  | _, _ => ⟨S8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def k0_off1 (i : grid0.Coords) (c0_i32_261 : BitVec 32) : Fin 2 → Nat :=
  let arg0 : BitVec 32 := BitVec.ofNat 32 (i 0).val
  let c7_i32_260 : BitVec 32 := 7#32
  let v758 : BitVec 32 := Scalar.muli arg0 c7_i32_260
  let v759 : BitVec 32 := Scalar.addi v758 c0_i32_261
  let v760 : Index := Scalar.indexCast v759
  let c0_262 : Index := 0#32
  ![v760.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S896x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S896x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S70x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S896x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceWIdeal.lean ====
abbrev S8960x1536 : Shape := ⟨2, ![8960, 1536]⟩
abbrev S70x12 : Shape := ⟨2, ![70, 12]⟩
abbrev S70x128x12x128 : Shape := ⟨4, ![70, 128, 12, 128]⟩
abbrev S70x1x12x1 : Shape := ⟨4, ![70, 1, 12, 1]⟩

abbrev nBuf : Space → Nat
  | .hbm => 4
  | .vmem => 4
  | .smem => 0
  | _ => 0

abbrev bufTy : (tb : Table) → Fin (tcTables nBuf tb) → BufTy
  | .hbm, ⟨0, _⟩ => ⟨S8960x1536, .bf16⟩
  | .hbm, ⟨1, _⟩ => ⟨S8960x1536, .fp8e4m3⟩
  | .hbm, ⟨2, _⟩ => ⟨S70x12, .f32⟩
  | .hbm, ⟨3, _⟩ => ⟨S8960x1536, .bf16⟩
  | .local _ .vmem, ⟨0, _⟩ => ⟨S8960x1536, .bf16⟩
  | .local _ .vmem, ⟨1, _⟩ => ⟨S8960x1536, .fp8e4m3⟩
  | .local _ .vmem, ⟨2, _⟩ => ⟨S70x12, .f32⟩
  | .local _ .vmem, ⟨3, _⟩ => ⟨S8960x1536, .bf16⟩
  | _, _ => ⟨S8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8960x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S70x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Scale.lean ====
/- The scale of one group as a function of its greatest absolute value, in two spellings: the kernel's, which counts
   the powers of two at or below the quotient and assembles the words of `2 ^ e` and `2 ^ -e`; and the textbook's,
   which takes `⌊log₂ t⌋ + 1` and raises two to it. On the range a bf16 array has they are the same. -/
module

public import Idealize.ShloMosaic.PureOps.Ideal.Laws
public import Idealize.ShloMosaic.Lib.IndicatorCount
public import Idealize.ShloMosaic.Lib.ValueIdxCore

@[expose] public section

set_option maxRecDepth 16384

noncomputable section

namespace Cert.Scale

open Idealize.ShloMosaic

/-! ## The words of powers of two -/

/-- The fields of the word `n · 2²³`: sign clear, exponent `n`, significand zero. -/
theorem fields : ∀ n : Fin 256, ((BitVec.ofNat 32 (n.val * 2 ^ 23)).extractLsb' (8 + 23) 1 == 1#1) = false
    ∧ ((BitVec.ofNat 32 (n.val * 2 ^ 23)).extractLsb' 23 8).toNat = n.val
    ∧ ((BitVec.ofNat 32 (n.val * 2 ^ 23)).extractLsb' 0 23).toNat = 0 := by decide +kernel

/-- The word `n · 2²³` of a normal exponent denotes `2 ^ (n - 127)`. -/
theorem ofBits_pow (n : ℕ) (h0 : n ≠ 0) (h : n < 255) :
    Ideal.ofBits .f32 (BitVec.ofNat 32 (n * 2 ^ 23)) = (((2 : ℝ) ^ ((n : ℤ) - 127) : ℝ) : EReal) := by
  obtain ⟨h1, h2, h3⟩ := fields ⟨n, by omega⟩
  dsimp only at h1 h2 h3
  unfold Ideal.ofBits Ideal.ieee
  dsimp only
  rw [h1, h2, h3, if_neg (by omega), if_neg h0]
  congr 1
  rw [if_neg (by simp), one_mul, Nat.add_zero]
  push_cast
  rw [show (8388608 : ℝ) = (2 : ℝ) ^ (23 : ℤ) by norm_num, ← zpow_add₀ (by norm_num)]
  congr 1
  omega

/-- The word `255 · 2²³` denotes `+∞`. -/
theorem ofBits_top : Ideal.ofBits .f32 (BitVec.ofNat 32 (255 * 2 ^ 23)) = ⊤ := by
  obtain ⟨h1, h2, h3⟩ := fields ⟨255, by omega⟩
  dsimp only at h1 h2 h3
  unfold Ideal.ofBits Ideal.ieee
  dsimp only
  rw [h1, h2, h3]
  simp

/-! ## The kernel's spelling -/

/-- The power of two that lane `j` of the comparison table holds. -/
def lanePow (j : Fin 255) : EReal := Ideal.ofBits .f32 (BitVec.ofNat 32 ((j.val + 1) * 2 ^ 23))

/-- How many of the table's powers of two are at or below `t`: the exponent field of `t`. -/
def field (t : EReal) : BitVec 32 :=
  Finset.univ.fold IntOp.addi 0#32 fun j : Fin 255 => Scalar.select (Ideal.cmp .oge t (lanePow j)) 1#32 0#32

/-- The exponent a field stands for, zero where the field is all zeros or all ones. -/
def expo (n : BitVec 32) : BitVec 32 :=
  Scalar.select (IntOp.ori (IntOp.cmpi .eq n 0#32) (IntOp.cmpi .eq n 255#32)) 0#32 (IntOp.subi n 126#32)

/-- The kernel's scale of a group whose greatest absolute value times `1/448` is `t`. -/
def scaleK (t : EReal) : EReal := Ideal.ofBits .f32 (IntOp.shli .vector (IntOp.addi (expo (field t)) 127#32) 23#32)

/-- The kernel's inverse scale. -/
def invK (t : EReal) : EReal := Ideal.ofBits .f32 (IntOp.shli .vector (IntOp.subi 127#32 (expo (field t))) 23#32)

/-! ## The textbook's spelling -/

/-- `frexp`'s exponent: `⌊log₂ t⌋ + 1` on the normal range, zero outside it. -/
def expoR (t : EReal) : EReal :=
  Scalar.select (IntOp.andi (Ideal.cmp .oge t (Ideal.ofBits .f32 0x00800000#32)) (Ideal.cmp .olt t (Ideal.ofBits .f32 0x7F800000#32)))
    (Ideal.liftRound Int.floor (Ideal.div (Ideal.log t) ((Real.log 2 : ℝ) : EReal)) + Ideal.ofBits .f32 0x3F800000#32)
    (Ideal.ofBits .f32 0x00000000#32)

/-- The textbook's scale. -/
def scaleR (t : EReal) : EReal := Ideal.exp2 (expoR t)

/-- The textbook's inverse scale. -/
def invR (t : EReal) : EReal := Ideal.exp2 (Ideal.ofBits .f32 0x00000000#32 - expoR t)

/-! ## They agree -/

/-- The field where the lanes at or below `t` are the first `n`. -/
theorem field_eq (t : EReal) (n : ℕ) (hn : n ≤ 255) (h : ∀ j : Fin 255, lanePow j ≤ t ↔ j.val < n) :
    field t = BitVec.ofNat 32 n := by
  have e : (fun j : Fin 255 => Scalar.select (Ideal.cmp .oge t (lanePow j)) 1#32 0#32)
      = fun j : Fin 255 => (BitVec.ofBool (decide (j.val < n))).setWidth 32 := by
    funext j
    have : Ideal.cmp .oge t (lanePow j) = BitVec.ofBool (decide (j.val < n)) := by
      unfold Ideal.cmp
      simp only [h j]
    rw [this]
    by_cases hj : j.val < n <;> simp [hj, Scalar.select]
  unfold field
  rw [e, IndicatorCount.fold_addi_setWidth_eq_card]
  congr 1
  have : (Finset.univ.filter fun k : Fin 255 => BitVec.ofBool (decide (k.val < n)) = 1#1) = Finset.univ.filter fun k : Fin 255 => k.val < n := by
    ext k; by_cases hk : k.val < n <;> simp [hk]
  rw [this, Fin.card_filter_val_lt]
  omega

/-- The words the kernel assembles from a normal field. -/
theorem words_normal : ∀ n : Fin 254, n.val ≠ 0 →
    IntOp.shli .vector (IntOp.addi (expo (BitVec.ofNat 32 n.val)) 127#32) 23#32 = BitVec.ofNat 32 ((n.val + 1) * 2 ^ 23)
    ∧ IntOp.shli .vector (IntOp.subi 127#32 (expo (BitVec.ofNat 32 n.val))) 23#32 = BitVec.ofNat 32 ((253 - n.val) * 2 ^ 23) := by
  decide +kernel

/-- The words it assembles from the field of zero or of infinity: those of one. -/
theorem words_plain : ∀ n : Fin 256, n.val = 0 ∨ n.val = 255 →
    IntOp.shli .vector (IntOp.addi (expo (BitVec.ofNat 32 n.val)) 127#32) 23#32 = BitVec.ofNat 32 (127 * 2 ^ 23)
    ∧ IntOp.shli .vector (IntOp.subi 127#32 (expo (BitVec.ofNat 32 n.val))) 23#32 = BitVec.ofNat 32 (127 * 2 ^ 23) := by
  decide +kernel

/-- Two to a real exponent that is an integer. -/
theorem exp2_int (e : ℤ) : Ideal.exp2 (((e : ℝ)) : EReal) = (((2 : ℝ) ^ e : ℝ) : EReal) := by
  show (((2 : ℝ).rpow (e : ℝ) : ℝ) : EReal) = _
  congr 1
  exact Real.rpow_intCast 2 e

/-- A power of two is at or below a positive real exactly when its exponent is at or below the floor of the logarithm. -/
theorem zpow_le_iff (r : ℝ) (hr : 0 < r) (k : ℤ) : (2 : ℝ) ^ k ≤ r ↔ k ≤ ⌊Real.log r / Real.log 2⌋ := by
  have h2 : 0 < Real.log 2 := Real.log_pos (by norm_num)
  rw [Int.le_floor, le_div_iff₀ h2, ← Real.log_zpow, Real.log_le_log_iff (by positivity) hr]

/-- A lane's power of two against a real: the last lane holds `+∞`. -/
theorem lanePow_le_real (r : ℝ) (hr : 0 < r) (hlt : ⌊Real.log r / Real.log 2⌋ < 127) (j : Fin 255) :
    lanePow j ≤ (r : EReal) ↔ (j.val : ℤ) - 126 ≤ ⌊Real.log r / Real.log 2⌋ := by
  unfold lanePow
  rcases lt_or_eq_of_le (Nat.le_of_lt_succ j.isLt) with hj | hj
  · rw [ofBits_pow _ (by omega) (by omega), EReal.coe_le_coe_iff, zpow_le_iff r hr]
    push_cast
    omega
  · rw [hj, ofBits_top, top_le_iff]
    constructor
    · intro h; exact absurd h (EReal.coe_ne_top r)
    · intro h; omega

/-- The normal range's least element. -/
theorem ofBits_tiny : Ideal.ofBits .f32 0x00800000#32 = (((2 : ℝ) ^ (-126 : ℤ) : ℝ) : EReal) :=
  (congrArg (Ideal.ofBits .f32) (by decide : (0x00800000#32) = BitVec.ofNat 32 (1 * 2 ^ 23))).trans (ofBits_pow 1 (by omega) (by omega))

theorem ofBits_inf : Ideal.ofBits .f32 0x7F800000#32 = ⊤ :=
  (congrArg (Ideal.ofBits .f32) (by decide : (0x7F800000#32) = BitVec.ofNat 32 (255 * 2 ^ 23))).trans ofBits_top

theorem ofBits_one : Ideal.ofBits .f32 0x3F800000#32 = 1 :=
  ((congrArg (Ideal.ofBits .f32) (by decide : (0x3F800000#32) = BitVec.ofNat 32 (127 * 2 ^ 23))).trans (ofBits_pow 127 (by omega) (by omega))).trans (by simp)

/-- Where the field is all zeros or all ones and `t` is outside the normal range, both scales are one. -/
theorem agree_plain (t : EReal) (n : ℕ) (hn : n = 0 ∨ n = 255) (hf : field t = BitVec.ofNat 32 n) (he : expoR t = 0) :
    scaleK t = scaleR t ∧ invK t = invR t := by
  obtain ⟨h1, h2⟩ := words_plain ⟨n, by omega⟩ hn
  have e1 : Ideal.ofBits .f32 (BitVec.ofNat 32 (127 * 2 ^ 23)) = 1 := (ofBits_pow 127 (by omega) (by omega)).trans (by simp)
  have e2 : Ideal.exp2 (0 : EReal) = 1 := by
    have := exp2_int 0
    simpa using this
  unfold scaleK invK scaleR invR
  rw [hf, he, Ideal.ofBits_zero_f32]
  dsimp only at h1 h2
  rw [h1, h2, e1, sub_zero, e2]
  exact ⟨rfl, rfl⟩

/-- THE TWO SCALES ARE THE SAME, and the two inverse scales: for every quotient that is not negative and is `+∞` or below
    `2 ^ 120`, as every bf16 array's is. -/
theorem agree (t : EReal) (h0 : 0 ≤ t) (h : t = ⊤ ∨ t < (((2 : ℝ) ^ (120 : ℤ) : ℝ) : EReal)) :
    scaleK t = scaleR t ∧ invK t = invR t := by
  by_cases htop : t = ⊤
  · subst htop
    refine agree_plain ⊤ 255 (.inr rfl) (field_eq ⊤ 255 le_rfl fun j => ⟨fun _ => j.isLt, fun _ => le_top⟩) ?_
    unfold expoR
    rw [ofBits_inf, Ideal.ofBits_zero_f32]
    have : Ideal.cmp .olt (⊤ : EReal) ⊤ = 0#1 := by simp [Ideal.cmp]
    rw [this]
    have z : ∀ b : BitVec 1, IntOp.andi b 0#1 = 0#1 := by decide
    rw [z]; rfl
  · have hlt := h.resolve_left htop
    lift t to ℝ using ⟨htop, fun hb => by rw [hb] at h0; exact absurd h0 (by simp)⟩ with r
    rw [EReal.coe_lt_coe_iff] at hlt
    have hr0 : 0 ≤ r := EReal.coe_nonneg.mp h0
    by_cases hsmall : r < (2 : ℝ) ^ (-126 : ℤ)
    · refine agree_plain r 0 (.inl rfl) (field_eq r 0 (by omega) fun j => ?_) ?_
      · refine ⟨fun hle => ?_, fun hlt => absurd hlt (Nat.not_lt_zero _)⟩
        exfalso
        have hb : Ideal.ofBits .f32 0x00800000#32 ≤ lanePow j := by
          rw [ofBits_tiny]
          unfold lanePow
          rcases lt_or_eq_of_le (Nat.le_of_lt_succ j.isLt) with hj | hj
          · rw [ofBits_pow _ (by omega) (by omega), EReal.coe_le_coe_iff]
            exact zpow_le_zpow_right₀ (by norm_num) (by push_cast; omega)
          · rw [hj, ofBits_top]; exact le_top
        rw [ofBits_tiny] at hb
        exact absurd (EReal.coe_le_coe_iff.mp (hb.trans hle)) (not_le.mpr hsmall)
      · unfold expoR
        rw [ofBits_tiny, Ideal.ofBits_zero_f32]
        have : Ideal.cmp .oge (r : EReal) (((2 : ℝ) ^ (-126 : ℤ) : ℝ) : EReal) = 0#1 := by
          unfold Ideal.cmp
          simp only [EReal.coe_le_coe_iff, not_le.mpr hsmall]; rfl
        rw [this]
        have z : ∀ b : BitVec 1, IntOp.andi 0#1 b = 0#1 := by decide
        rw [z]; rfl
    · have hge : (2 : ℝ) ^ (-126 : ℤ) ≤ r := not_lt.mp hsmall
      have hr : 0 < r := lt_of_lt_of_le (by positivity) hge
      have hk1 : -126 ≤ ⌊Real.log r / Real.log 2⌋ := (zpow_le_iff r hr _).mp hge
      have hk2 : ⌊Real.log r / Real.log 2⌋ < 120 := by
        by_contra hc
        exact absurd ((zpow_le_iff r hr 120).mpr (not_lt.mp hc)) (not_le.mpr hlt)
      obtain ⟨n, hn⟩ : ∃ n : ℕ, ⌊Real.log r / Real.log 2⌋ = (n : ℤ) - 127 := ⟨(⌊Real.log r / Real.log 2⌋ + 127).toNat, by omega⟩
      have hf : field (r : EReal) = BitVec.ofNat 32 n :=
        field_eq r n (by omega) fun j => by rw [lanePow_le_real r hr (by omega) j, hn]; omega
      have he : expoR (r : EReal) = (((((n : ℤ) - 126 : ℤ) : ℝ)) : EReal) := by
        unfold expoR
        rw [ofBits_tiny, ofBits_inf, ofBits_one]
        have c1 : Ideal.cmp .oge (r : EReal) (((2 : ℝ) ^ (-126 : ℤ) : ℝ) : EReal) = 1#1 := by
          unfold Ideal.cmp
          simp only [EReal.coe_le_coe_iff, hge]; rfl
        have c2 : Ideal.cmp .olt (r : EReal) ⊤ = 1#1 := by
          unfold Ideal.cmp
          simp only [EReal.coe_lt_top]; rfl
        rw [c1, c2, show IntOp.andi 1#1 1#1 = 1#1 by decide]
        have l2 : Real.log 2 ≠ 0 := (Real.log_pos (by norm_num)).ne'
        have l1 : Ideal.log (r : EReal) = ((Real.log r : ℝ) : EReal) := by
          show (if r ≤ 0 then ⊥ else ((Real.log r : ℝ) : EReal)) = _
          rw [if_neg (not_le.mpr hr)]
        have d1 : Ideal.div ((Real.log r : ℝ) : EReal) ((Real.log 2 : ℝ) : EReal) = ((Real.log r / Real.log 2 : ℝ) : EReal) := by
          unfold Ideal.div
          rw [if_neg (by exact_mod_cast l2), ← EReal.coe_inv, ← EReal.coe_mul, div_eq_mul_inv]
        rw [l1, d1]
        show (((⌊Real.log r / Real.log 2⌋ : ℤ) : ℝ) : EReal) + 1 = _
        rw [hn, ← EReal.coe_one, ← EReal.coe_add]
        congr 1
        push_cast
        ring
      obtain ⟨w1, w2⟩ := words_normal ⟨n, by omega⟩ (by show n ≠ 0; omega)
      unfold scaleK invK scaleR invR
      rw [hf, he, Ideal.ofBits_zero_f32]
      dsimp only at w1 w2
      rw [w1, w2, ofBits_pow _ (by omega) (by omega), ofBits_pow _ (by omega) (by omega), exp2_int, zero_sub, ← EReal.coe_neg,
        ← Int.cast_neg, exp2_int]
      refine ⟨?_, ?_⟩
      · congr 2; omega
      · congr 2; omega

end Cert.Scale

end
-- ==== Proof.Group.lean ====
/- One group of entries and its quantisation, as functions of the group's entries: the greatest absolute value, its
   quotient by 448, the codes and the values the codes stand for, with the kernel's scale and with the textbook's. -/
module

public import proofs.«01_k».proof.Proof.Scale

@[expose] public section

noncomputable section

namespace Cert.Scale

open Idealize.ShloMosaic

variable {ι : Type} [Fintype ι]

/-- The greatest absolute value of a group. -/
def groupMax (f : ι → EReal) : EReal :=
  Finset.univ.fold max (Ideal.ofBits .f32 0xFF800000#32) fun k => FloatOps.absf (F := Ideal) (φ := .bf16) (f k)

/-- The greatest absolute value times the printed `1 / 448`. -/
def quot (f : ι → EReal) : EReal := groupMax f * Ideal.ofBits .f32 0x3B124925#32

/-- An entry scaled by `inv` and clipped to the format's range. -/
def clip (v inv : EReal) : EReal := min (Ideal.ofBits .f32 0x43E00000#32) (max (Ideal.ofBits .f32 0xC3E00000#32) (v * inv))

/-- The code the kernel stores for the entry `v` of the group `f`. -/
def codeK (f : ι → EReal) (v : EReal) : EReal := clip v (invK (quot f))

/-- The code the textbook's quantiser gives. -/
def codeR (f : ι → EReal) (v : EReal) : EReal := clip v (invR (quot f))

/-! ## A whole array -/

/-- Group `g` of row `r`. -/
abbrev grp (A : Fin 24576 → Fin 1536 → EReal) (r : Fin 24576) (g : Fin 12) : Fin 128 → EReal :=
  fun k => A r ⟨g.val * 128 + k.val, by omega⟩

/-- The group a column lies in. -/
abbrev colGrp (k : Fin 1536) : Fin 12 := ⟨k.val / 128, by omega⟩

/-- The kernel's codes. -/
def arrCodeK (A : Fin 24576 → Fin 1536 → EReal) (r : Fin 24576) (k : Fin 1536) : EReal := codeK (grp A r (colGrp k)) (A r k)

/-- The kernel's products. -/
def arrProdK (A : Fin 24576 → Fin 1536 → EReal) (w : Fin 8960 → Fin 1536 → EReal) (r : Fin 24576) (n : Fin 8960) : EReal :=
  ∑ k : Fin 1536, arrCodeK A r k * scaleK (quot (grp A r (colGrp k))) * w n k

/-- The textbook's codes. -/
def arrCodeR (A : Fin 24576 → Fin 1536 → EReal) (r : Fin 24576) (k : Fin 1536) : EReal := codeR (grp A r (colGrp k)) (A r k)

/-- The textbook's products. -/
def arrProdR (A : Fin 24576 → Fin 1536 → EReal) (w : Fin 8960 → Fin 1536 → EReal) (r : Fin 24576) (n : Fin 8960) : EReal :=
  ∑ k : Fin 1536, arrCodeR A r k * scaleR (quot (grp A r (colGrp k))) * w n k

/-! ## The weights -/

/-- Tile `(r, g)` of the weights. -/
abbrev wTile (A : Fin 8960 → Fin 1536 → EReal) (r : Fin 70) (g : Fin 12) : Fin 128 × Fin 128 → EReal :=
  fun p => A ⟨r.val * 128 + p.1.val, by omega⟩ ⟨g.val * 128 + p.2.val, by omega⟩

/-- The tile row a row of the weights lies in. -/
abbrev rowTile (r : Fin 8960) : Fin 70 := ⟨r.val / 128, by omega⟩

/-- The kernel's codes of the weights. -/
def wCodeK (A : Fin 8960 → Fin 1536 → EReal) (r : Fin 8960) (k : Fin 1536) : EReal :=
  codeK (wTile A (rowTile r) (colGrp k)) (A r k)

/-- The kernel's dequantised weights. -/
def wDeqK (A : Fin 8960 → Fin 1536 → EReal) (r : Fin 8960) (k : Fin 1536) : EReal :=
  wCodeK A r k * scaleK (quot (wTile A (rowTile r) (colGrp k)))

/-- The textbook's codes of the weights. -/
def wCodeR (A : Fin 8960 → Fin 1536 → EReal) (r : Fin 8960) (k : Fin 1536) : EReal :=
  codeR (wTile A (rowTile r) (colGrp k)) (A r k)

/-- The textbook's dequantised weights. -/
def wDeqR (A : Fin 8960 → Fin 1536 → EReal) (r : Fin 8960) (k : Fin 1536) : EReal :=
  wCodeR A r k * scaleR (quot (wTile A (rowTile r) (colGrp k)))

end Cert.Scale

end
-- ==== Proof.KerPay.lean ====
/- The idealized kernel's payloads: the twelve groups' chains are one chain of the group's 128 columns, read at an index
   as the group's scale, codes and dequantised values. -/
module

public import proofs.«01_k».proof.Proof.Gen.KernelIdeal.Value
public import proofs.«01_k».proof.Proof.Group
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.SL.Sem
open Cert.Scale

/-- Row `r` of a group's columns. -/
abbrev row (v : Vec Ideal S512x128 .bf16) (r : Fin 512) : Fin 128 → EReal := fun k => v (ix2 r k)

/-- The word of a lane's power of two. -/
theorem lane_word : ∀ x : Fin 255, IntOp.shli .vector (IntOp.addi (BitVec.ofNat 32 x.val) 1#32) 23#32
    = BitVec.ofNat 32 ((x.val + 1) * 2 ^ 23) := by decide +kernel

/-- A lane's bit as an integer. -/
theorem lane_bit (t : EReal) (x : Fin 255) :
    (if Ideal.ofBits .f32 (IntOp.shli .vector (IntOp.addi (BitVec.ofNat 32 x.val) 1#32) 23#32) ≤ t then 1#32 else 0#32)
      = Scalar.select (Ideal.cmp .oge t (lanePow x)) 1#32 0#32 := by
  rw [lane_word]
  unfold lanePow
  generalize Ideal.ofBits .f32 (BitVec.ofNat 32 ((x.val + 1) * 2 ^ 23)) = p
  unfold Ideal.cmp Scalar.select
  by_cases h : p ≤ t <;> simp [h]

/-- The exponent of a row's group. -/
theorem pay5 (v : Vec Ideal S512x128 .bf16) (r : Fin 512) (z : Fin 1) :
    k0_pay5 v (ix2 r z) = expo (field (quot (row v r))) := by
  unfold k0_pay5 k0_pay4
  pointwise
  simp only [lane_bit]
  rfl

/-- The scale. -/
theorem pay6 (v : Vec Ideal S512x128 .bf16) (r : Fin 512) (z : Fin 1) :
    k0_pay6 v (ix2 r z) = scaleK (quot (row v r)) := by
  unfold k0_pay6
  pointwise
  rw [pay5]
  rfl

/-- The codes of a group. -/
abbrev codes (v : Vec Ideal S512x128 .bf16) : Vec Ideal S512x128 .fp8e4m3 := k0_pay9 (k0_pay4 v) (k0_pay7 v) k0_pay8

/-- The dequantised values of a group. -/
abbrev values (v : Vec Ideal S512x128 .bf16) : Vec Ideal S512x128 .bf16 := k0_pay10 (k0_pay4 v) (k0_pay6 v) (k0_pay7 v) k0_pay8

theorem codes_apply (v : Vec Ideal S512x128 .bf16) (r : Fin 512) (c : Fin 128) :
    codes v (ix2 r c) = codeK (row v r) (v (ix2 r c)) := by
  unfold codes k0_pay9 k0_pay4 k0_pay8
  pointwise
  unfold k0_pay7
  pointwise
  rw [pay5]
  rfl

theorem values_apply (v : Vec Ideal S512x128 .bf16) (r : Fin 512) (c : Fin 128) :
    values v (ix2 r c) = codeK (row v r) (v (ix2 r c)) * scaleK (quot (row v r)) := by
  rw [← codes_apply, ← pay6 v r 0]
  unfold values k0_pay10
  pointwise

/-! ## The other groups' chains are the first group's -/

theorem codes1 (v : Vec Ideal S512x128 .bf16) : k0_pay17 (k0_pay12 v) (k0_pay13 v) 0#32 k0_pay14 = codes v := rfl
theorem codes2 (v : Vec Ideal S512x128 .bf16) : k0_pay26 (k0_pay21 v) (k0_pay24 v) k0_pay25 = codes v := rfl
theorem values1 (v : Vec Ideal S512x128 .bf16) : k0_pay18 (k0_pay12 v) (k0_pay13 v) 0#32 k0_pay14 = values v := rfl
theorem values2 (v : Vec Ideal S512x128 .bf16) : k0_pay27 (k0_pay21 v) (k0_pay23 v) (k0_pay24 v) k0_pay25 = values v := rfl
theorem scale1 (v : Vec Ideal S512x128 .bf16) : k0_pay16 (k0_pay13 v) 0#32 k0_pay14 = k0_pay6 v := rfl
theorem scale2 (v : Vec Ideal S512x128 .bf16) : k0_pay23 v = k0_pay6 v := rfl

/-! ## The scales' lanes -/

/-- Group `g`'s scale put in lane `g`, the other lanes kept. -/
abbrev lane (g : BitVec 32) (A : FVec Ideal S512x12 .f32) (s : FVec Ideal S512x1 .f32) : FVec Ideal S512x12 .f32 :=
  k0_pay20 (iota .tc S512x12 32 [1] iota_S512x12_d1_w32) A s (broadcast S512x12 g)

theorem lane_apply (g : BitVec 32) (A : FVec Ideal S512x12 .f32) (s : FVec Ideal S512x1 .f32) (r : Fin 512) (j : Fin 12) :
    lane g A s (ix2 r j) = Scalar.select (IntOp.cmpi .eq (BitVec.ofNat 32 j.val) g) (s (ix2 r 0)) (A (ix2 r j)) := by
  unfold lane k0_pay20
  pointwise

/-- The lanes of twelve groups put one after another over any array: lane `j` is group `j`'s scale. -/
theorem lanes_apply (A : FVec Ideal S512x12 .f32) (s : Fin 12 → FVec Ideal S512x1 .f32) (r : Fin 512) (j : Fin 12) :
    lane 11#32 (lane 10#32 (lane 9#32 (lane 8#32 (lane 7#32 (lane 6#32 (lane 5#32 (lane 4#32 (lane 3#32 (lane 2#32 (lane 1#32
      (lane 0#32 A (s 0)) (s 1)) (s 2)) (s 3)) (s 4)) (s 5)) (s 6)) (s 7)) (s 8)) (s 9)) (s 10)) (s 11) (ix2 r j) = s j (ix2 r 0) := by
  simp only [lane_apply]
  fin_cases j <;> rfl

end Cert.KernelIdeal.Val

end
-- ==== Proof.Block.lean ====
/- What one grid point of the idealized kernel leaves in its three output blocks, as functions of the two blocks it
   reads. -/
module

public import proofs.«01_k».proof.Proof.KerPay
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem
open Cert.Scale

/-! ## The block's functions -/

/-- The group of row `r` that column `c` lies in. -/
abbrev group (x : Vec Ideal S512x1536 .bf16) (r : Fin 512) (g : Fin 12) : Fin 128 → EReal :=
  fun k => x (ix2 r ⟨g.val * 128 + k.val, by omega⟩)

/-- The block's codes. -/
def codeB (x : Vec Ideal S512x1536 .bf16) : Vec Ideal S512x1536 .fp8e4m3 :=
  fun y => codeK (group x (y 0) ⟨(y 1).val / 128, by have : (y 1).val < 1536 := (y 1).isLt; omega⟩) (x y)

/-- The block's dequantised values. -/
def valueB (x : Vec Ideal S512x1536 .bf16) : Vec Ideal S512x1536 .bf16 :=
  fun y => codeB x y * scaleK (quot (group x (y 0) ⟨(y 1).val / 128, by have : (y 1).val < 1536 := (y 1).isLt; omega⟩))

/-! ## A group's columns -/

/-- A group's columns of a row. -/
theorem row_ld (x : Vec Ideal S512x1536 .bf16) (g : Fin 12) (o : ℕ) (ho : o = g.val * 128) (inb) (r : Fin 512) :
    row (View.ld x (Rect.unit (s := S512x1536) ![0, o] ![512, 128] inb)) r = group x r g := by
  subst ho
  funext k
  show x _ = x _
  congr 1
  funext a
  apply Fin.ext
  fin_cases a
  · exact (ValueKit.rect_emb_unit_val _ _ _ _ _).trans (Nat.zero_add _)
  · exact ValueKit.rect_emb_unit_val _ _ _ _ _

/-- A group's codes are the block's codes at its columns. -/
theorem codes_ld (x : Vec Ideal S512x1536 .bf16) (g : Fin 12) (o : ℕ) (ho : o = g.val * 128) (inb)
    (y : (Rect.unit (s := S512x1536) ![0, o] ![512, 128] inb).shape.Idx) :
    codes (View.ld x (Rect.unit (s := S512x1536) ![0, o] ![512, 128] inb)) y
      = codeB x ((Rect.unit (s := S512x1536) ![0, o] ![512, 128] inb).emb y) := by
  obtain ⟨r, c, rfl⟩ : ∃ (r : Fin 512) (c : Fin 128), y = ix2 r c := ⟨y 0, y 1, by funext a; fin_cases a <;> rfl⟩
  rw [codes_apply, row_ld x g o ho]
  have e0 : (((Rect.unit (s := S512x1536) ![0, o] ![512, 128] inb).emb (ix2 r c)) 0).val = r.val :=
    (ValueKit.rect_emb_unit_val _ _ _ _ _).trans (Nat.zero_add _)
  have e1 : (((Rect.unit (s := S512x1536) ![0, o] ![512, 128] inb).emb (ix2 r c)) 1).val = o + c.val :=
    ValueKit.rect_emb_unit_val _ _ _ _ _
  unfold codeB
  have h0 : ((Rect.unit (s := S512x1536) ![0, o] ![512, 128] inb).emb (ix2 r c)) 0 = r := Fin.ext e0
  have h1 : (⟨(((Rect.unit (s := S512x1536) ![0, o] ![512, 128] inb).emb (ix2 r c)) 1).val / 128, by
      have : (((Rect.unit (s := S512x1536) ![0, o] ![512, 128] inb).emb (ix2 r c)) 1).val < 1536 := Fin.isLt _; omega⟩ : Fin 12) = g :=
    Fin.ext (by dsimp only; rw [e1]; omega)
  rw [h0, h1]
  rfl

/-- A group's dequantised values are the block's at its columns. -/
theorem values_ld (x : Vec Ideal S512x1536 .bf16) (g : Fin 12) (o : ℕ) (ho : o = g.val * 128) (inb)
    (y : (Rect.unit (s := S512x1536) ![0, o] ![512, 128] inb).shape.Idx) :
    values (View.ld x (Rect.unit (s := S512x1536) ![0, o] ![512, 128] inb)) y
      = valueB x ((Rect.unit (s := S512x1536) ![0, o] ![512, 128] inb).emb y) := by
  unfold valueB
  rw [← codes_ld x g o ho]
  obtain ⟨r, c, rfl⟩ : ∃ (r : Fin 512) (c : Fin 128), y = ix2 r c := ⟨y 0, y 1, by funext a; fin_cases a <;> rfl⟩
  rw [values_apply, codes_apply, row_ld x g o ho]
  have e0 : (((Rect.unit (s := S512x1536) ![0, o] ![512, 128] inb).emb (ix2 r c)) 0).val = r.val :=
    (ValueKit.rect_emb_unit_val _ _ _ _ _).trans (Nat.zero_add _)
  have e1 : (((Rect.unit (s := S512x1536) ![0, o] ![512, 128] inb).emb (ix2 r c)) 1).val = o + c.val :=
    ValueKit.rect_emb_unit_val _ _ _ _ _
  have h0 : ((Rect.unit (s := S512x1536) ![0, o] ![512, 128] inb).emb (ix2 r c)) 0 = r := Fin.ext e0
  have h1 : (⟨(((Rect.unit (s := S512x1536) ![0, o] ![512, 128] inb).emb (ix2 r c)) 1).val / 128, by
      have : (((Rect.unit (s := S512x1536) ![0, o] ![512, 128] inb).emb (ix2 r c)) 1).val < 1536 := Fin.isLt _; omega⟩ : Fin 12) = g :=
    Fin.ext (by dsimp only; rw [e1]; omega)
  rw [h0, h1]

/-! ## The scales -/

variable (m : (ℓ : Loc nD τ sig) → Buf (Elt Ideal) ℓ)

/-- The loads of the twelve groups. -/
abbrev ldg (x : Vec Ideal S512x1536 .bf16) (g : Fin 12) : Vec Ideal S512x128 .bf16 :=
  View.ld x (Rect.unit (s := S512x1536) ![0, g.val * 128] ![512, 128] (by
    intro a; fin_cases a
    · exact le_of_eq rfl
    · show g.val * 128 + 128 ≤ 1536; omega))

theorem scales_block (c : Dev nD) (t : Fin cfg0.N) (r : Fin 512) (j : Fin 12) :
    (outsAt0 m c t).2.2 (ix2 r j) = scaleK (quot (group (iblk m c 0 t) r j)) := by
  unfold outsAt0
  dsimp only
  frame_out
  refine (lanes_apply k0_pay3 (fun g => k0_pay6 (ldg (iblk m c 0 t) g)) r j).trans ?_
  rw [pay6, row_ld _ j _ rfl]

theorem codes_block (c : Dev nD) (t : Fin cfg0.N) (y : S512x1536.Idx) :
    (outsAt0 m c t).2.1 y = codeB (iblk m c 0 t) y := by
  unfold outsAt0
  dsimp only
  frame_out
  generalize iblk m c 0 t = x
  refine View.canon_apply_of_pieces (codeB x) _ (View.PiecesOf.mem ?_) y (View.cover_of_tiledL (s := S512x1536) _ S512x128.size (by sl_kernel_rfl) y)
  refine ⟨?_, ?_, ?_, ?_, ?_, ?_, ?_, ?_, ?_, ?_, ?_, ?_, trivial⟩
  · exact codes_ld x 11 1408 rfl _
  · exact codes_ld x 10 1280 rfl _
  · exact codes_ld x 9 1152 rfl _
  · exact codes_ld x 8 1024 rfl _
  · exact codes_ld x 7 896 rfl _
  · exact codes_ld x 6 768 rfl _
  · exact codes_ld x 5 640 rfl _
  · exact codes_ld x 4 512 rfl _
  · exact codes_ld x 3 384 rfl _
  · exact codes_ld x 2 256 rfl _
  · exact codes_ld x 1 128 rfl _
  · exact codes_ld x 0 0 rfl _

/-! ## The products -/

/-- The rectangle of group `g`'s columns. -/
abbrev rectg (g : Fin 12) : Rect S512x1536 := Rect.unit (s := S512x1536) ![0, g.val * 128] ![512, 128] (by
    intro a; fin_cases a
    · exact le_of_eq rfl
    · show g.val * 128 + 128 ≤ 1536; omega)

/-- A group's store into the scratch. -/
abbrev piece (x : Vec Ideal S512x1536 .bf16) (g : Fin 12) : View.Piece (Elt Ideal) S512x1536 .bf16 :=
  ⟨rectg g, values (View.ld x (rectg g))⟩

/-- What the scratch holds after the twelve groups' stores. -/
theorem scratch_eq (x : Vec Ideal S512x1536 .bf16) :
    (View.whole cc0_scratch0).readCov [piece x 11, piece x 10, piece x 9, piece x 8, piece x 7, piece x 6, piece x 5, piece x 4,
      piece x 3, piece x 2, piece x 1, piece x 0] (Rect.unit (s := S512x1536) ![0, 0] ![512, 1536] inb_S512x1536_S512x1536_0_0).toLoadRect
      = valueB x := by
  rw [View.readCov_eq_canon']
  funext j
  have hj : (Rect.unit (s := S512x1536) ![0, 0] ![512, 1536] inb_S512x1536_S512x1536_0_0).toLoadRect.idx j = j := by
    funext a
    apply Fin.ext
    fin_cases a <;> exact (ValueKit.rect_emb_unit_val _ _ _ _ _).trans (Nat.zero_add _)
  rw [hj]
  refine View.canon_apply_of_pieces (valueB x) _ (View.PiecesOf.mem ?_) j ?_
  · exact ⟨values_ld x 11 _ rfl _, values_ld x 10 _ rfl _, values_ld x 9 _ rfl _, values_ld x 8 _ rfl _, values_ld x 7 _ rfl _,
      values_ld x 6 _ rfl _, values_ld x 5 _ rfl _, values_ld x 4 _ rfl _, values_ld x 3 _ rfl _, values_ld x 2 _ rfl _,
      values_ld x 1 _ rfl _, values_ld x 0 _ rfl _, trivial⟩
  · exact View.cover_of_tiledL (s := S512x1536) _ S512x128.size (by sl_kernel_rfl) j

/-- The block's products: row `r` of the dequantised values against row `n` of the weights. -/
def prodB (x : Vec Ideal S512x1536 .bf16) (w : Vec Ideal S8960x1536 .bf16) : Vec Ideal S512x8960 .bf16 :=
  fun y => ∑ k : Fin 1536, valueB x (ix2 (y 0) k) * w (ix2 (y 1) k)

/-- A product with 1280 rows of the weights is the block's product at those columns. -/
theorem dot_ld (x : Vec Ideal S512x1536 .bf16) (w : Vec Ideal S8960x1536 .bf16) (X : Vec Ideal S512x1536 .bf16) (hX : X = valueB x)
    (o : ℕ) (inb inb') (y : (Rect.unit (s := S512x8960) ![0, o] ![512, 1280] inb).shape.Idx) :
    k0_pay1 X (View.ld w (Rect.unit (s := S8960x1536) ![o, 0] ![1280, 1536] inb')) y
      = prodB x w ((Rect.unit (s := S512x8960) ![0, o] ![512, 1280] inb).emb y) := by
  subst hX
  obtain ⟨r, n, rfl⟩ : ∃ (r : Fin 512) (n : Fin 1280), y = ix2 r n := ⟨y 0, y 1, by funext a; fin_cases a <;> rfl⟩
  have e : k0_pay1 (valueB x) (View.ld w (Rect.unit (s := S8960x1536) ![o, 0] ![1280, 1536] inb')) (ix2 r n)
      = ∑ k : Fin 1536, valueB x (ix2 r k) * View.ld w (Rect.unit (s := S8960x1536) ![o, 0] ![1280, 1536] inb') (ix2 n k) := by
    unfold k0_pay1
    pointwise
  rw [e]
  unfold prodB
  refine Finset.sum_congr rfl fun k _ => ?_
  have h0 : ((Rect.unit (s := S512x8960) ![0, o] ![512, 1280] inb).emb (ix2 r n)) 0 = r :=
    Fin.ext ((ValueKit.rect_emb_unit_val _ _ _ _ _).trans (Nat.zero_add _))
  have h1 : (Rect.unit (s := S8960x1536) ![o, 0] ![1280, 1536] inb').emb (ix2 n k)
      = ix2 (((Rect.unit (s := S512x8960) ![0, o] ![512, 1280] inb).emb (ix2 r n)) 1) k := by
    funext a
    apply Fin.ext
    fin_cases a
    · exact (ValueKit.rect_emb_unit_val _ _ _ _ _).trans (ValueKit.rect_emb_unit_val _ _ _ _ _).symm
    · exact (ValueKit.rect_emb_unit_val _ _ _ _ _).trans (Nat.zero_add _)
  rw [h0]
  exact congrArg (fun z => valueB x (ix2 r k) * w z) h1

theorem prods_block (c : Dev nD) (t : Fin cfg0.N) (y : S512x8960.Idx) :
    (outsAt0 m c t).1 y = prodB (iblk m c 0 t) (iblk m c 1 t) y := by
  unfold outsAt0
  dsimp only
  frame_out
  have h := scratch_eq (iblk m c 0 t)
  generalize iblk m c 0 t = x at *
  generalize iblk m c 1 t = w
  refine View.canon_apply_of_pieces (prodB x w) _ (View.PiecesOf.mem ?_) y (View.cover_of_tiledL (s := S512x8960) _ S512x1280.size (by sl_kernel_rfl) y)
  refine ⟨?_, ?_, ?_, ?_, ?_, ?_, ?_, trivial⟩
  · refine dot_ld x w _ ?_ 7680 inb_S512x8960_S512x1280_0_7680 inb_S8960x1536_S1280x1536_7680_0
    exact h
  · refine dot_ld x w _ ?_ 6400 inb_S512x8960_S512x1280_0_6400 inb_S8960x1536_S1280x1536_6400_0
    exact h
  · refine dot_ld x w _ ?_ 5120 inb_S512x8960_S512x1280_0_5120 inb_S8960x1536_S1280x1536_5120_0
    exact h
  · refine dot_ld x w _ ?_ 3840 inb_S512x8960_S512x1280_0_3840 inb_S8960x1536_S1280x1536_3840_0
    exact h
  · refine dot_ld x w _ ?_ 2560 inb_S512x8960_S512x1280_0_2560 inb_S8960x1536_S1280x1536_2560_0
    exact h
  · refine dot_ld x w _ ?_ 1280 inb_S512x8960_S512x1280_0_1280 inb_S8960x1536_S1280x1536_1280_0
    exact h
  · refine dot_ld x w _ ?_ 0 inb_S512x8960_S512x1280_0_0 inb_S8960x1536_S1280x1536_0_0
    exact h

end Cert.KernelIdeal.Val

end
-- ==== Proof.Arrays.lean ====
/- The idealized kernel's three output arrays after its run, as functions of the activations and the weights. -/
module

public import proofs.«01_k».proof.Proof.Block

@[expose] public section

set_option maxRecDepth 16384

noncomputable section

namespace Cert.KernelIdeal.Val

open Cert.KernelIdeal Cert.KernelIdeal.Gen Idealize.ShloMosaic Idealize.ShloMosaic.TcCoe Idealize.SL.Sem
open Cert.Scale

variable (m : (ℓ : Loc nD τ sig) → Buf (Elt Ideal) ℓ) (ρ : Dev nD → PrngReg)

/-- The flat activations. -/
def X (c : Dev nD) : Fin 24576 → Fin 1536 → EReal :=
  fun r k => shapeCast S24576x1536 (m ((c : Thread nD τ).loc main_arg0) : Vec Ideal S24x1024x1536 .bf16) shapeCasts_S24x1024x1536_S24576x1536 (ix2 r k)

/-- The weights. -/
def W (c : Dev nD) : Fin 8960 → Fin 1536 → EReal := fun n k => m ((c : Thread nD τ).loc main_arg1) (ix2 n k)

theorem V_main_v0 (c : Dev nD) (r : Fin 24576) (k : Fin 1536) : V m c main_v0 (ix2 r k) = X m c r k := rfl

/-- The windows' block indices, decided over the grid. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0])

/-- Row `r` of block `t` in the array. -/
abbrev rowOf (t : Fin cfg0.N) (r : Fin 512) : Fin 24576 := ⟨t.val * 512 + r.val, by have : t.val < 48 := t.isLt; omega⟩

theorem iblk0 (c : Dev nD) (t : Fin cfg0.N) (r : Fin 512) (k : Fin 1536) :
    iblk m c 0 t (ix2 r k) = X m c (rowOf t r) k := by
  rw [← V_main_v0]
  blk_ext [iblk, idx t]

theorem iblk1 (c : Dev nD) (t : Fin cfg0.N) (n : Fin 8960) (k : Fin 1536) :
    iblk m c 1 t (ix2 n k) = W m c n k := by
  unfold W
  blk_ext [iblk, V, idx t]

theorem group_iblk (c : Dev nD) (t : Fin cfg0.N) (r : Fin 512) (g : Fin 12) :
    group (iblk m c 0 t) r g = grp (X m c) (rowOf t r) g := by
  funext k
  exact iblk0 m c t r _

/-! ## Where a block's entries lie -/

theorem emb2 (t : Fin cfg0.N) (r : Fin 512) (n : Fin 8960) :
    ((View.whole main_v1_0).slice (win0_2.rect t)).emb (ix2 r n) = ix2 (rowOf t r) n := by
  blk_ext [idx t]

theorem emb3 (t : Fin cfg0.N) (r : Fin 512) (k : Fin 1536) :
    ((View.whole main_v1_1).slice (win0_3.rect t)).emb (ix2 r k) = ix2 (rowOf t r) k := by
  blk_ext [idx t]

theorem emb4 (t : Fin cfg0.N) (r : Fin 512) (g : Fin 12) :
    ((View.whole main_v1_2).slice (win0_4.rect t)).emb (ix2 r g) = ix2 (rowOf t r) g := by
  blk_ext [idx t]

/-! ## The arrays -/

/-- The codes of a block are the array's at its rows. -/
theorem codeB_iblk (c : Dev nD) (t : Fin cfg0.N) (r : Fin 512) (k : Fin 1536) :
    codeB (iblk m c 0 t) (ix2 r k) = arrCodeK (X m c) (rowOf t r) k := by
  unfold codeB arrCodeK
  rw [← group_iblk m c t r (colGrp k), ← iblk0]
  rfl

theorem valueB_iblk (c : Dev nD) (t : Fin cfg0.N) (r : Fin 512) (k : Fin 1536) :
    valueB (iblk m c 0 t) (ix2 r k) = arrCodeK (X m c) (rowOf t r) k * scaleK (quot (grp (X m c) (rowOf t r) (colGrp k))) := by
  unfold valueB
  rw [codeB_iblk, ← group_iblk m c t r (colGrp k)]
  rfl

/-- The products. -/
theorem arr2 (c : Dev nD) : (dats m 0 c).arrAt 2 cfg0.N = fun y : S24576x8960.Idx => arrProdK (X m c) (W m c) (y 0) (y 1) := by
  refine (dats m 0 c).arrAt_eq_of_covers 2 _ (by decide +kernel) fun t hf y => ?_
  blk_simp
  rw [after0_2]
  idx_vars y
  refine (prods_block m c t (ix2 y0 y1)).trans ?_
  rw [emb2]
  show prodB _ _ _ = arrProdK (X m c) (W m c) (rowOf t y0) y1
  unfold prodB arrProdK
  refine Finset.sum_congr rfl fun k _ => ?_
  rw [← valueB_iblk, ← iblk1 m c t]
  rfl

/-- The codes. -/
theorem arr3 (c : Dev nD) : (dats m 0 c).arrAt 3 cfg0.N = fun y : S24576x1536.Idx => arrCodeK (X m c) (y 0) (y 1) := by
  refine (dats m 0 c).arrAt_eq_of_covers 3 _ (by decide +kernel) fun t hf y => ?_
  blk_simp
  rw [after0_3]
  idx_vars y
  refine (codes_block m c t (ix2 y0 y1)).trans ?_
  rw [emb3]
  exact codeB_iblk m c t y0 y1

/-- The scales. -/
theorem arr4 (c : Dev nD) : (dats m 0 c).arrAt 4 cfg0.N = fun y : S24576x12.Idx => scaleK (quot (grp (X m c) (y 0) (y 1))) := by
  refine (dats m 0 c).arrAt_eq_of_covers 4 _ (by decide +kernel) fun t hf y => ?_
  blk_simp
  rw [after0_4]
  idx_vars y
  refine (scales_block m c t y0 y1).trans ?_
  rw [group_iblk, emb4]
  rfl

/-- The run. -/
theorem run : θ_run defs (onTc (τ := τ) (main (F := Ideal))) ⟨m, fun _ => 0, ρ⟩ fun r => ∀ c : Dev nD,
      r.2.mem ((c : Thread nD τ).loc main_v1_0) = (fun y : S24576x8960.Idx => arrProdK (X m c) (W m c) (y 0) (y 1))
      ∧ r.2.mem ((c : Thread nD τ).loc main_v1_1) = (fun y : S24576x1536.Idx => arrCodeK (X m c) (y 0) (y 1))
      ∧ r.2.mem ((c : Thread nD τ).loc main_v1_2) = (fun y : S24576x12.Idx => scaleK (quot (grp (X m c) (y 0) (y 1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2.1.trans (arr3 m c), (h c).2.2.1.trans (arr4 m c), (h c).2.2.2⟩)
    (Value.run_blocks m ρ)

end Cert.KernelIdeal.Val

end
-- ==== Proof.RefPay.lean ====
/- The idealized reference's payloads read at an index: the scales, the codes and the products as functions of the
   activations and the weights. -/
module

public import proofs.«01_k».proof.Proof.Gen.ReferenceIdeal.Value
public import proofs.«01_k».proof.Proof.Group
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Scale

/-! ## Pointwise chains, at any shape -/

/-- The exponent's chain of vector operations, one entry at a time. -/
theorem expo_apply {s : Shape} (t : FVec Ideal s .f32) (i : s.Idx) :
    select (andi (cmpf .oge t (broadcast s (Scalar.ofBits .f32 0x00800000#32))) (cmpf .olt t (broadcast s (Scalar.ofBits .f32 0x7F800000#32))))
      (addf (floor (divf (log t) (broadcast s (Named.named κ "ln2" 0x3F317218#32)))) (broadcast s (Scalar.ofBits .f32 0x3F800000#32)))
      (broadcast s (Scalar.ofBits .f32 0x00000000#32)) i = expoR (t i) := rfl

/-- The quotient by 448. -/
theorem quot_apply {s : Shape} (t : FVec Ideal s .f32) (i : s.Idx) :
    mulf t (broadcast s (Scalar.ofBits .f32 0x3B124925#32)) i = t i * Ideal.ofBits .f32 0x3B124925#32 := rfl

/-- The scale from the exponent. -/
theorem exp2_apply {s : Shape} (e : FVec Ideal s .f32) (i : s.Idx) : exp2 e i = Ideal.exp2 (e i) := rfl

/-- The inverse scale from the exponent. -/
theorem inv_apply {s : Shape} (e : FVec Ideal s .f32) (i : s.Idx) :
    exp2 (subf (broadcast s (Scalar.ofBits .f32 0x00000000#32)) e) i = Ideal.exp2 (Ideal.ofBits .f32 0x00000000#32 - e i) := rfl

/-- Scaling and clipping. -/
theorem clip_apply {s : Shape} (a b : FVec Ideal s .f32) (i : s.Idx) :
    truncf .fp8e4m3 (minimumf (broadcast s (Scalar.ofBits .f32 0x43E00000#32)) (maximumf (broadcast s (Scalar.ofBits .f32 0xC3E00000#32)) (mulf a b)))
      bitsLt_fp8e4m3_f32 i = clip (a i) (b i) := rfl

/-! ## Layout -/

/-- The maximum over the lanes of a group. -/
theorem reduce (v : FVec Ideal S24576x12x128 .f32) (r : Fin 24576) (g : Fin 12) :
    (multiReduction .maximumf [2] S24576x12 v 0xFF800000#32 reduces_S24576x12x128_S24576x12 (.inl rfl) rfl : FVec Ideal S24576x12 .f32) (ix2 r g)
      = Finset.univ.fold max (Ideal.ofBits .f32 0xFF800000#32) (fun k => v (ix3 r g k)) := by
  pointwise

/-- The grouped array laid flat. -/
theorem flat {α : Type} (v : S24576x12x128.Idx → α) (r : Fin 24576) (c : Fin 1536) :
    shapeCast S24576x1536 v shapeCasts_S24576x12x128_S24576x1536 (ix2 r c)
      = v (ix3 r ⟨c.val / 128, by omega⟩ ⟨c.val % 128, by omega⟩) := by
  pointwise

/-- The flat array grouped. -/
theorem grouped {α : Type} (v : S24576x1536.Idx → α) (r : Fin 24576) (g : Fin 12) (k : Fin 128) :
    shapeCast S24576x12x128 v shapeCasts_S24576x1536_S24576x12x128 (ix3 r g k) = v (ix2 r ⟨g.val * 128 + k.val, by omega⟩) := by
  pointwise

/-- One value per group spread over the group. -/
theorem spread {α : Type} (v : S24576x12.Idx → α) (r : Fin 24576) (g : Fin 12) (k : Fin 128) :
    broadcastTo S24576x12x128 (shapeCast S24576x12x1 v shapeCasts_S24576x12_S24576x12x1) broadcasts_S24576x12x1_S24576x12x128 (ix3 r g k)
      = v (ix2 r g) := by
  pointwise

/-! ## The payloads -/

/-- The group of the flat index `(r, 128 g + _)`. -/
abbrev group (v : Vec Ideal S24576x1536 .bf16) (r : Fin 24576) (g : Fin 12) : Fin 128 → EReal :=
  fun k => v (ix2 r ⟨g.val * 128 + k.val, by omega⟩)

theorem pay1 (v : Vec Ideal S24576x1536 .bf16) (r : Fin 24576) (g : Fin 12) (k : Fin 128) :
    k0_pay1 v (ix3 r g k) = group v r g k := by
  unfold k0_pay1
  pointwise

theorem pay2 (v : Vec Ideal S24576x1536 .bf16) (r : Fin 24576) (g : Fin 12) :
    k0_pay2 v (ix2 r g) = expoR (quot (group v r g)) := by
  unfold k0_pay2
  refine (expo_apply _ _).trans ?_
  rw [quot_apply, reduce]
  unfold quot groupMax
  have h : (fun k => absf (k0_pay1 v) (ix3 r g k)) = fun k => FloatOps.absf (F := Ideal) (φ := .bf16) (group v r g k) := by
    funext k
    exact congrArg (FloatOps.absf (F := Ideal) (φ := .bf16)) (pay1 v r g k)
  rw [h]

theorem pay3 (v : Vec Ideal S24576x1536 .bf16) (r : Fin 24576) (g : Fin 12) :
    k0_pay3 v (ix2 r g) = scaleR (quot (group v r g)) := by
  unfold k0_pay3 scaleR
  rw [exp2_apply, pay2]

theorem pay4 (v : Vec Ideal S24576x1536 .bf16) (r : Fin 24576) (c : Fin 1536) :
    k0_pay4 v (ix2 r c) = codeR (group v r ⟨c.val / 128, by omega⟩) (v (ix2 r c)) := by
  unfold k0_pay4
  refine (flat _ r c).trans ?_
  refine (clip_apply _ _ _).trans ?_
  rw [pay1, spread, inv_apply, pay2]
  have h : (⟨c.val / 128 * 128 + c.val % 128, by omega⟩ : Fin 1536) = c := Fin.ext (by dsimp only; omega)
  unfold codeR invR
  simp only [group, h]

/-- The dequantised activations. -/
def deq (v : Vec Ideal S24576x1536 .bf16) (r : Fin 24576) (c : Fin 1536) : EReal :=
  codeR (group v r ⟨c.val / 128, by omega⟩) (v (ix2 r c)) * scaleR (quot (group v r ⟨c.val / 128, by omega⟩))

theorem pay5 (X : Vec Ideal S24576x1536 .bf16) (W : Vec Ideal S8960x1536 .bf16) (r : Fin 24576) (n : Fin 8960) :
    k0_pay5 X W (ix2 r n) = ∑ k : Fin 1536, deq X r k * W (ix2 n k) := by
  have e : k0_pay5 X W (ix2 r n) = ∑ k : Fin 1536, k0_pay4 X (ix2 r k) * k0_pay3 X (ix2 r ⟨k.val / 128, by omega⟩) * W (ix2 n k) := by
    unfold k0_pay5
    pointwise
  rw [e]
  refine Finset.sum_congr rfl fun k _ => ?_
  rw [pay4, pay3]
  rfl

end Cert.ReferenceIdeal.Val

end
-- ==== Proof.RefArrays.lean ====
/- The idealized reference's three results after its run, as functions of the activations and the weights. -/
module

public import proofs.«01_k».proof.Proof.RefPay

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Scale

variable (m : (ℓ : Loc nD τ sig) → Buf (Elt Ideal) ℓ) (ρ : Dev nD → PrngReg)

/-- The flat activations. -/
def X (c : Dev nD) : Fin 24576 → Fin 1536 → EReal :=
  fun r k => shapeCast S24576x1536 (m ((c : Thread nD τ).loc main_arg0) : Vec Ideal S24x1024x1536 .bf16) shapeCasts_S24x1024x1536_S24576x1536 (ix2 r k)

/-- The weights. -/
def W (c : Dev nD) : Fin 8960 → Fin 1536 → EReal := fun n k => m ((c : Thread nD τ).loc main_arg1) (ix2 n k)

theorem V_main_v0 (c : Dev nD) (r : Fin 24576) (k : Fin 1536) : V m c main_v0 (ix2 r k) = X m c r k := rfl

/-- The windows' block indices: one point, the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0])

theorem iblk0 (c : Dev nD) (t : Fin cfg0.N) (r : Fin 24576) (k : Fin 1536) : iblk m c 0 t (ix2 r k) = X m c r k := by
  rw [← V_main_v0]
  blk_ext [iblk, idx t]

theorem iblk1 (c : Dev nD) (t : Fin cfg0.N) (n : Fin 8960) (k : Fin 1536) : iblk m c 1 t (ix2 n k) = W m c n k := by
  unfold W
  blk_ext [iblk, V, idx t]

theorem emb2 (t : Fin cfg0.N) (r : Fin 24576) (n : Fin 8960) :
    ((View.whole main_v1_0).slice (win0_2.rect t)).emb (ix2 r n) = ix2 r n := by
  blk_ext [idx t]

theorem emb3 (t : Fin cfg0.N) (r : Fin 24576) (k : Fin 1536) :
    ((View.whole main_v1_1).slice (win0_3.rect t)).emb (ix2 r k) = ix2 r k := by
  blk_ext [idx t]

theorem emb4 (t : Fin cfg0.N) (r : Fin 24576) (g : Fin 12) :
    ((View.whole main_v1_2).slice (win0_4.rect t)).emb (ix2 r g) = ix2 r g := by
  blk_ext [idx t]

theorem group_iblk (c : Dev nD) (t : Fin cfg0.N) (r : Fin 24576) (g : Fin 12) : group (iblk m c 0 t) r g = grp (X m c) r g := by
  funext k
  exact iblk0 m c t r _

/-- The codes' payload on the block. -/
theorem code_iblk (c : Dev nD) (t : Fin cfg0.N) (r : Fin 24576) (k : Fin 1536) :
    codeR (group (iblk m c 0 t) r (colGrp k)) (iblk m c 0 t (ix2 r k)) = arrCodeR (X m c) r k := by
  unfold arrCodeR
  rw [group_iblk, iblk0]

/-- The products. -/
theorem arr2 (c : Dev nD) : (dats m 0 c).arrAt 2 cfg0.N = fun y : S24576x8960.Idx => arrProdR (X m c) (W m c) (y 0) (y 1) := by
  refine (dats m 0 c).arrAt_eq_of_covers 2 _ (by decide +kernel) fun t hf y => ?_
  blk_simp
  rw [after0_2]
  frame_out
  idx_vars y
  refine (pay5 _ _ y0 y1).trans ?_
  rw [emb2]
  show _ = arrProdR (X m c) (W m c) y0 y1
  unfold arrProdR
  refine Finset.sum_congr rfl fun k _ => ?_
  unfold deq
  rw [code_iblk, group_iblk, iblk1]

/-- The codes. -/
theorem arr3 (c : Dev nD) : (dats m 0 c).arrAt 3 cfg0.N = fun y : S24576x1536.Idx => arrCodeR (X m c) (y 0) (y 1) := by
  refine (dats m 0 c).arrAt_eq_of_covers 3 _ (by decide +kernel) fun t hf y => ?_
  blk_simp
  rw [after0_3]
  frame_out
  idx_vars y
  refine (pay4 _ y0 y1).trans ?_
  rw [emb3, code_iblk]
  rfl

/-- The scales. -/
theorem arr4 (c : Dev nD) : (dats m 0 c).arrAt 4 cfg0.N = fun y : S24576x12.Idx => scaleR (quot (grp (X m c) (y 0) (y 1))) := by
  refine (dats m 0 c).arrAt_eq_of_covers 4 _ (by decide +kernel) fun t hf y => ?_
  blk_simp
  rw [after0_4]
  frame_out
  idx_vars y
  refine (pay3 _ y0 y1).trans ?_
  rw [group_iblk, emb4]
  rfl

/-- The run. -/
theorem run : θ_run defs (onTc (τ := τ) (main (F := Ideal))) ⟨m, fun _ => 0, ρ⟩ fun r => ∀ c : Dev nD,
      r.2.mem ((c : Thread nD τ).loc main_v1_0) = (fun y : S24576x8960.Idx => arrProdR (X m c) (W m c) (y 0) (y 1))
      ∧ r.2.mem ((c : Thread nD τ).loc main_v1_1) = (fun y : S24576x1536.Idx => arrCodeR (X m c) (y 0) (y 1))
      ∧ r.2.mem ((c : Thread nD τ).loc main_v1_2) = (fun y : S24576x12.Idx => scaleR (quot (grp (X m c) (y 0) (y 1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2.1.trans (arr3 m c), (h c).2.2.1.trans (arr4 m c), (h c).2.2.2⟩)
    (Value.run_blocks m ρ)

end Cert.ReferenceIdeal.Val

end
-- ==== Proof.Range.lean ====
/- The range of the activations under the precondition, and what it gives: the quotient of a group is `+∞` or below
   `2 ^ 120`, where the kernel's scale and the textbook's are the same. -/
module

public import proofs.«01_k».proof.Proof.Group
public import proofs.«01_k».proof.Pre_in_range
public import proofs.«01_k».proof.Proof.Gen.Pre_in_range
public import Idealize.ShloMosaic.Lib.ReduceAll

@[expose] public section

set_option maxRecDepth 16384

noncomputable section

namespace Cert.Scale

open Idealize.ShloMosaic

/-- The absolute value is a bf16 number's: at most the greatest finite one, or `+∞`. -/
def InRange (v : EReal) : Prop := max v (-v) ≤ Ideal.ofBits .bf16 0x7F7F#16 ∨ max v (-v) = ⊤

/-! ## The constants -/

/-- The greatest finite bf16 number is `255 · 2 ^ 120`. -/
theorem ofBits_bf16_max : Ideal.ofBits .bf16 0x7F7F#16 = ((255 * (2 : ℝ) ^ (120 : ℤ) : ℝ) : EReal) := by
  obtain ⟨h1, h2, h3⟩ : ((0x7F7F#16).extractLsb' (8 + 7) 1 == 1#1) = false ∧ ((0x7F7F#16).extractLsb' 7 8).toNat = 254
      ∧ ((0x7F7F#16).extractLsb' 0 7).toNat = 127 := by decide +kernel
  unfold Ideal.ofBits Ideal.ieee
  dsimp only
  rw [h1, h2, h3]
  norm_num

/-- The word of bf16's infinity denotes `+∞`. -/
theorem ofBits_bf16_inf : Ideal.ofBits .bf16 0x7F80#16 = ⊤ := by simp [Ideal.ofBits, Ideal.ieee]

theorem ofBits_neg_inf : Ideal.ofBits .f32 0xFF800000#32 = ⊥ := by simp [Ideal.ofBits, Ideal.ieee]

/-- The printed `1 / 448`. -/
theorem ofBits_inv448 : Ideal.ofBits .f32 0x3B124925#32 = ((9586981 * (2 : ℝ) ^ (-32 : ℤ) : ℝ) : EReal) := by
  obtain ⟨h1, h2, h3⟩ : ((0x3B124925#32).extractLsb' (8 + 23) 1 == 1#1) = false ∧ ((0x3B124925#32).extractLsb' 23 8).toNat = 118
      ∧ ((0x3B124925#32).extractLsb' 0 23).toNat = 1198373 := by decide +kernel
  unfold Ideal.ofBits Ideal.ieee
  dsimp only
  rw [h1, h2, h3]
  norm_num

/-! ## A group's quotient -/

theorem absv_nonneg (v : EReal) : 0 ≤ max v (-v) := by
  rcases le_total 0 v with h | h
  · exact le_max_of_le_left h
  · exact le_max_of_le_right (EReal.neg_nonneg.2 h)

variable {ι : Type} [Fintype ι]

theorem groupMax_eq (f : ι → EReal) : groupMax f = Finset.univ.sup fun k => max (f k) (-f k) := by
  unfold groupMax
  rw [ofBits_neg_inf]
  rfl

theorem groupMax_nonneg [Nonempty ι] (f : ι → EReal) : 0 ≤ groupMax f := by
  obtain ⟨i⟩ := ‹Nonempty ι›
  rw [groupMax_eq]
  exact (absv_nonneg (f i)).trans (Finset.le_sup (f := fun k => max (f k) (-f k)) (Finset.mem_univ i))

theorem groupMax_range (f : ι → EReal) (h : ∀ k, InRange (f k)) :
    groupMax f = ⊤ ∨ groupMax f ≤ Ideal.ofBits .bf16 0x7F7F#16 := by
  rw [groupMax_eq]
  by_cases e : ∃ k, max (f k) (-f k) = ⊤
  · obtain ⟨k, hk⟩ := e
    exact .inl (top_le_iff.1 (hk ▸ Finset.le_sup (f := fun k => max (f k) (-f k)) (Finset.mem_univ k)))
  · exact .inr (Finset.sup_le fun k _ => (h k).resolve_right fun hk => e ⟨k, hk⟩)

theorem quot_nonneg [Nonempty ι] (f : ι → EReal) : 0 ≤ quot f := by
  unfold quot
  refine mul_nonneg (groupMax_nonneg f) ?_
  rw [ofBits_inv448]
  exact EReal.coe_nonneg.2 (by positivity)

theorem quot_range (f : ι → EReal) (h : ∀ k, InRange (f k)) :
    quot f = ⊤ ∨ quot f < (((2 : ℝ) ^ (120 : ℤ) : ℝ) : EReal) := by
  unfold quot
  rcases groupMax_range f h with e | e
  · left
    rw [e, ofBits_inv448, EReal.top_mul_coe_of_pos (by positivity)]
  · right
    have hc : (0 : EReal) ≤ Ideal.ofBits .f32 0x3B124925#32 := by
      rw [ofBits_inv448]; exact EReal.coe_nonneg.2 (by positivity)
    refine (mul_le_mul_of_nonneg_right e hc).trans_lt ?_
    rw [ofBits_inv448, ofBits_bf16_max, ← EReal.coe_mul, EReal.coe_lt_coe_iff]
    norm_num

/-- The two spellings of the scale agree on a group in range. -/
theorem agree_quot [Nonempty ι] (f : ι → EReal) (h : ∀ k, InRange (f k)) :
    scaleK (quot f) = scaleR (quot f) ∧ invK (quot f) = invR (quot f) :=
  agree _ (quot_nonneg f) (quot_range f h)

/-! ## The arrays -/

variable (A : Fin 24576 → Fin 1536 → EReal) (h : ∀ r k, InRange (A r k))

include h

theorem arrScale_eq (r : Fin 24576) (g : Fin 12) : scaleK (quot (grp A r g)) = scaleR (quot (grp A r g)) :=
  (agree_quot _ fun _ => h _ _).1

theorem arrCode_eq (r : Fin 24576) (k : Fin 1536) : arrCodeK A r k = arrCodeR A r k := by
  unfold arrCodeK arrCodeR codeK codeR
  rw [(agree_quot _ fun _ => h _ _).2]

theorem arrProd_eq (w : Fin 8960 → Fin 1536 → EReal) (r : Fin 24576) (n : Fin 8960) : arrProdK A w r n = arrProdR A w r n := by
  unfold arrProdK arrProdR
  exact Finset.sum_congr rfl fun k _ => by rw [arrCode_eq A h, arrScale_eq A h]

omit h

/-! ## The precondition -/

instance : Subsingleton Cert.Pre_in_range.S_.Idx := ⟨fun a b => funext fun i => i.elim0⟩

/-- A comparison `≤` or `= +∞` that is 1. -/
theorem inRange_of_word (v : EReal)
    (e : IntOp.ori (Ideal.cmp .ole (max v (-v)) (Ideal.ofBits .bf16 0x7F7F#16)) (Ideal.cmp .oeq (max v (-v)) (Ideal.ofBits .bf16 0x7F80#16)) = 1#1) :
    InRange v := by
  rw [ofBits_bf16_inf] at e
  unfold InRange
  by_contra hc
  obtain ⟨h1, h2⟩ := not_or.1 hc
  simp [Ideal.cmp, IntOp.ori, h1, h2] at e

/-- The precondition says that every activation is in range. -/
theorem inRange_of_pre (x : FVec Ideal Cert.Pre_in_range.S24x1024x1536 .bf16) (w : FVec Ideal Cert.Pre_in_range.S8960x1536 .bf16)
    (hp : Cert.Pre_in_range.fn (F := Ideal) x w = fun _ => 1#1) (i : Cert.Pre_in_range.S24x1024x1536.Idx) : InRange (x i) := by
  have e := congrFun hp (Shape.Idx.first Cert.Pre_in_range.Gen.h_S_)
  dsimp only [Cert.Pre_in_range.fn] at e
  exact inRange_of_word _ (Host.reduce_andi_all _ _ _ _ _ e i)

end Cert.Scale

end
-- ==== Proof.WRun.lean ====
/- The weight quantiser's body as one run: what its stores leave in the three output buffers, as the pieces it writes. -/
module

public import proofs.«01_k».proof.Proof.Gen.QuantWIdeal.Frame
public import proofs.«01_k».proof.Proof.Gen.QuantWIdeal.Skeleton

@[expose] public section

set_option maxRecDepth 16384

noncomputable section

namespace Cert.QuantWIdeal.Val

open Cert.QuantWIdeal Cert.QuantWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the outputs, with the body's triple: from the weights' block `x0` and the scales'
    buffer at `x2`, the body runs to the continuation that holds the weights as they were, the codes' and the dequantised
    weights' pieces over some contents, and the scales' over `x2`. -/
def bodyRun (c : Dev nD) (i : grid0.Coords) (arg1 : Memref sig .tc .vmem S896x1536 .bf16) (harg1 : arg1.IsWhole) (arg2 : Memref sig .tc .vmem S896x1536 .fp8e4m3) (harg2 : arg2.IsWhole) (arg3 : Memref sig .tc .vmem S70x12 .f32) (harg3 : arg3.IsWhole) (arg4 : Memref sig .tc .vmem S896x1536 .bf16) (harg4 : arg4.IsWhole)
    (x0 : Vec F S896x1536 .bf16) (x2 : Vec F S70x12 .f32) :
    Σ' (L1 : List (View.Piece (Elt F) S896x1536 .fp8e4m3)), Σ' (L2 : List (View.Piece (Elt F) S70x12 .f32)), { L3 : List (View.Piece (Elt F) S896x1536 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare x2 ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ (arg3.view.loc (c : Thread nD τ) ↦[arg3.view.set]{fullShare} arg3.view.writes (Elt F) (harg3.unread x2) L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_w i arg1 harg1 arg2 harg2 arg3 harg3 arg4 harg4) K } := by
  refine ⟨?_, ?_, ?_, fun E K => ?run⟩
  case run =>
    simp only [cc0_quant_w_eq_skeleton]; unfold cc0_quant_w_skel
    simp only [k0_part126_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part127_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton]
    unfold owns
    iintro ⟨⟨%f0, %hf0, H0⟩, ⟨%d1, %f1, -, H1⟩, ⟨%f2, %hf2, H2⟩, ⟨%d3, %f3, -, H3⟩, Hk⟩
    obtain rfl := harg1.eq_unread hf0; obtain rfl := harg3.eq_unread hf2
    sl_exec
    sl_step
    iapply Hk
    isplitl [H0]
    · iexists _; isplitr; · ipureintro; exact harg1.read_unread _
      iexact H0
    isplitl [H1]; · iexists _; iexact H1
    isplitl [H2]; · iexact H2
    iexists _; iexact H3

end Cert.QuantWIdeal.Val

end
-- ==== Proof.WFrame.lean ====
/- The frame of the weight quantiser, at any values: its run ends with the weights unchanged and every counter at zero,
   nothing said of the outputs. -/
module

public import proofs.«01_k».proof.Proof.WRun
public import Idealize.ShloMosaic.Lib.Claim

@[expose] public section

set_option maxRecDepth 16384

noncomputable section

namespace Cert.QuantWIdeal.Val

open Cert.QuantWIdeal Cert.QuantWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The staging buffers -/

/-- Each window's staging buffer at point `t`, and that it is whole. -/
abbrev ms0_0 (t : Fin cfg0.N) : Memref sig .tc .vmem S896x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S70x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x1536 .bf16 := win0_3.stage (cfg0.slots t 3)
abbrev hs0_3 (t : Fin cfg0.N) : (ms0_3 t).IsWhole := hstage0_3 ((cfg0.slots t 3).cast nbuf0_3)

/-! ## The pipeline's proof data -/

/-- The output windows, of whose contents the frame says nothing. -/
def forgets0 : Fin 4 → Bool := fun w => w.val == 1 || w.val == 2 || w.val == 3

/-- The proof data of the pipeline on core `c`: the arrays as the region finds them, each input's buffer at its block, the
    outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves in the weights' buffer: their block. -/
theorem after0_0 (c : Dev nD) (t : Fin cfg0.N) : (dats m 0 c).after 0 t = iblk m c 0 t := by dsimp only [dats]

/-- The weights' buffer holds their block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d))

/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) d2).2.2.2 Set.univ _)
  isplitl [H0]; · iexact H0
  isplitl [H1]; · iexists _; iexact H1
  isplitl [H2]; · iexact H2
  isplitl [H3]; · iexists _; iexact H3
  iintro ⟨H0, ⟨%e1, H1⟩, H2, ⟨%e3, H3⟩⟩
  isplitl [HΦ]; · iexact HΦ
  isplitl [Ho]; · iexact Ho
  isplitl [H0]; · iexact H0
  isplitl [H1]
  · iexists _; unfold owns; iexists _; isplitr
    swap; · iexact H1
    ipureintro; rfl
  isplitl [H2]
  · iexists _; unfold owns; iexists _; isplitr
    swap; · iexact H2
    ipureintro; rfl
  iexists _; unfold owns; iexists _; isplitr
  swap; · iexact H3
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run of the launch, every semaphore counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, every array that is not an output at what the region finds. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The weights end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePost.arr_in h c 0 rfl).trans ((A_eq m c 0).trans (V_main_arg0 m c))) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.QuantWIdeal.Val

end
-- ==== Proof.WPrinted.lean ====
/- The frame of the weight quantiser as printed: its program is, term for term, the one printed for the extended reals, so
   the frame proved of that one at any values is its frame. -/
module

public import proofs.«01_k».proof.Proof.WFrame
public import proofs.«01_k».proof.Proof.Gen.QuantW

@[expose] public section

set_option maxRecDepth 65536

noncomputable section

namespace Cert.QuantW.Val

open Cert.QuantW Idealize.ShloMosaic Idealize.ShloMosaic.TcCoe Idealize.SL.Sem

variable {F : FTy → Type} [FloatOps F]

/-- The two bodies are one. -/
theorem body_eq (i arg1 harg1 arg2 harg2 arg3 harg3 arg4 harg4) :
    cc0_quant_w (F := F) i arg1 harg1 arg2 harg2 arg3 harg3 arg4 harg4
      = Cert.QuantWIdeal.cc0_quant_w (F := F) i arg1 harg1 arg2 harg2 arg3 harg3 arg4 harg4 := rfl

theorem defs₀_eq : defs₀ (F := F) = Cert.QuantWIdeal.defs₀ (F := F) := by
  unfold defs₀ Cert.QuantWIdeal.defs₀
  refine congrArg Defs.onTc ?_
  funext l x
  match l, x with
  | 0, (t, s) => exact body_eq _ _ _ _ _ _ _ _ _
  | ⟨_ + 1, h⟩, _ => exact absurd h (Nat.not_lt.2 (Nat.le_add_left _ _))

/-- The two body tables are one. -/
theorem defs_eq : defs (F := F) = Cert.QuantWIdeal.defs (F := F) := congrArg (Pipeline.defs pcfgs) defs₀_eq

/-- The frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) := by
  rw [defs_eq]
  exact Cert.QuantWIdeal.Val.frame m ρ

end Cert.QuantW.Val

end
-- ==== Proof.WTile.lean ====
/- The weight quantiser's payloads: a tile's chain of 128 × 128 entries, read at an index as the tile's scale, codes and
   dequantised values. -/
module

public import proofs.«01_k».proof.Proof.KerPay
public import proofs.«01_k».proof.Proof.Gen.QuantWIdeal.Skeleton

@[expose] public section

set_option maxRecDepth 16384

noncomputable section

namespace Cert.QuantWIdeal.Val

open Cert.QuantWIdeal Cert.QuantWIdeal.Gen Idealize.ShloMosaic Idealize.ShloMosaic.TcCoe Idealize.SL.Sem
open Cert.Scale

/-- A tile's entries. -/
abbrev ent (v : Vec Ideal S128x128 .bf16) : Fin 128 × Fin 128 → EReal := fun p => v (ix2 p.1 p.2)

/-- The exponent of a tile. -/
theorem pay6 (v : Vec Ideal S128x128 .bf16) (z z' : Fin 1) :
    k0_pay6 v (ix2 z z') = expo (field (quot (ent v))) := by
  unfold k0_pay6
  pointwise
  simp only [Cert.KernelIdeal.Val.lane_bit]
  rfl

/-- The scale. -/
theorem pay7 (v : Vec Ideal S128x128 .bf16) (z z' : Fin 1) :
    k0_pay7 v (ix2 z z') = scaleK (quot (ent v)) := by
  unfold k0_pay7
  pointwise
  rw [pay6]
  rfl

/-- The codes of a tile. -/
abbrev codes (v : Vec Ideal S128x128 .bf16) : Vec Ideal S128x128 .fp8e4m3 := k0_pay9 v (k0_pay8 v) 23#32

/-- The dequantised values of a tile. -/
abbrev values (v : Vec Ideal S128x128 .bf16) : Vec Ideal S128x128 .bf16 := k0_pay10 v (k0_pay7 v) (k0_pay8 v) 23#32

theorem codes_apply (v : Vec Ideal S128x128 .bf16) (r c : Fin 128) :
    codes v (ix2 r c) = codeK (ent v) (v (ix2 r c)) := by
  unfold codes k0_pay9 k0_pay8
  pointwise
  rw [pay6]
  rfl

theorem values_apply (v : Vec Ideal S128x128 .bf16) (r c : Fin 128) :
    values v (ix2 r c) = codeK (ent v) (v (ix2 r c)) * scaleK (quot (ent v)) := by
  rw [← codes_apply, ← pay7 v 0 0]
  unfold values k0_pay10
  pointwise

/-! ## The scales' lanes -/

/-- Tile `g`'s scale put in lane `g`, the other lanes kept. -/
abbrev lane (g : BitVec 32) (A : FVec Ideal S1x12 .f32) (s : FVec Ideal S1x1 .f32) : FVec Ideal S1x12 .f32 :=
  k0_pay20 A (cmpi .eq (iota .tc S1x12 32 [1] iota_S1x12_d1_w32) (broadcast S1x12 g)) (shapeCast S1x1 s shapeCasts_S1x1_S1x1)

theorem lane_apply (g : BitVec 32) (A : FVec Ideal S1x12 .f32) (s : FVec Ideal S1x1 .f32) (z : Fin 1) (j : Fin 12) :
    lane g A s (ix2 z j) = Scalar.select (IntOp.cmpi .eq (BitVec.ofNat 32 j.val) g) (s (ix2 0 0)) (A (ix2 z j)) := by
  unfold lane k0_pay20
  pointwise

/-- The lanes of twelve tiles put one after another over any array. -/
def lanes (A : FVec Ideal S1x12 .f32) (s : Fin 12 → FVec Ideal S1x1 .f32) : FVec Ideal S1x12 .f32 :=
  lane 11#32 (lane 10#32 (lane 9#32 (lane 8#32 (lane 7#32 (lane 6#32 (lane 5#32 (lane 4#32 (lane 3#32 (lane 2#32 (lane 1#32
      (lane 0#32 A (s 0)) (s 1)) (s 2)) (s 3)) (s 4)) (s 5)) (s 6)) (s 7)) (s 8)) (s 9)) (s 10)) (s 11)

/-- Lane `j` is tile `j`'s scale. -/
theorem lanes_apply (A : FVec Ideal S1x12 .f32) (s : Fin 12 → FVec Ideal S1x1 .f32) (z : Fin 1) (j : Fin 12) :
    lanes A s (ix2 z j) = s j (ix2 0 0) := by
  unfold lanes
  simp only [lane_apply]
  fin_cases j <;> rfl

end Cert.QuantWIdeal.Val

end
-- ==== Proof.WBlock.lean ====
/- What one grid point of the weight quantiser leaves in its two block outputs and in its rows of the scales, as functions
   of the weights' block it reads. -/
module

public import proofs.«01_k».proof.Proof.WTile
public import proofs.«01_k».proof.Proof.WRun
public import Idealize.ShloMosaic.Lib.Pipeline.ReadBack

@[expose] public section

set_option maxRecDepth 16384

noncomputable section

namespace Cert.QuantWIdeal.Val

open Cert.QuantWIdeal Cert.QuantWIdeal.Gen Idealize.ShloMosaic Idealize.ShloMosaic.TcCoe Idealize.SL.Sem
open Cert.Scale

/-! ## The block's functions -/

/-- The block's tile `(r, g)`. -/
abbrev tileB (x : Vec Ideal S896x1536 .bf16) (r : Fin 7) (g : Fin 12) : Fin 128 × Fin 128 → EReal :=
  fun p => x (ix2 ⟨r.val * 128 + p.1.val, by omega⟩ ⟨g.val * 128 + p.2.val, by omega⟩)

/-- The tile an index lies in. -/
abbrev tileAt (x : Vec Ideal S896x1536 .bf16) (y : S896x1536.Idx) : Fin 128 × Fin 128 → EReal :=
  tileB x ⟨(y 0).val / 128, by have : (y 0).val < 896 := (y 0).isLt; omega⟩ ⟨(y 1).val / 128, by have : (y 1).val < 1536 := (y 1).isLt; omega⟩

/-- The block's codes. -/
def codeB (x : Vec Ideal S896x1536 .bf16) : Vec Ideal S896x1536 .fp8e4m3 := fun y => codeK (tileAt x y) (x y)

/-- The block's dequantised values. -/
def valueB (x : Vec Ideal S896x1536 .bf16) : Vec Ideal S896x1536 .bf16 := fun y => codeB x y * scaleK (quot (tileAt x y))

/-! ## A tile's entries -/

section
variable (arg1 : Memref sig .tc .vmem S896x1536 .bf16) (harg1 : arg1.IsWhole) (x : Vec Ideal S896x1536 .bf16)
variable {o0 o1 : ℕ} (inb : ∀ a, (![o0, o1] : Fin 2 → ℕ) a + S128x128.size a ≤ S896x1536.size a)

/-- The tile loaded at `(o0, o1)` of the block's buffer. -/
abbrev ldT : Vec Ideal S128x128 .bf16 :=
  View.readAt (Elt Ideal) arg1.view (Rect.unit (s := S896x1536) ![o0, o1] S128x128.size inb).toLoadRect (harg1.unread x)

theorem emb_val (r c : Fin 128) : (((Rect.unit (s := S896x1536) ![o0, o1] S128x128.size inb).emb (ix2 r c)) 0).val = o0 + r.val
    ∧ (((Rect.unit (s := S896x1536) ![o0, o1] S128x128.size inb).emb (ix2 r c)) 1).val = o1 + c.val :=
  ⟨ValueKit.rect_emb_unit_val _ _ _ _ _, ValueKit.rect_emb_unit_val _ _ _ _ _⟩

theorem ldT_apply (y : S128x128.Idx) :
    ldT arg1 harg1 x inb y = x ((Rect.unit (s := S896x1536) ![o0, o1] S128x128.size inb).emb y) := by
  unfold ldT
  rw [View.readAt_eq_ld, Memref.IsWhole.read_unread]
  rfl

theorem ent_ld (r : Fin 7) (g : Fin 12) (h0 : o0 = r.val * 128) (h1 : o1 = g.val * 128) :
    ent (ldT arg1 harg1 x inb) = tileB x r g := by
  subst h0 h1
  funext p
  show ldT arg1 harg1 x inb _ = x _
  rw [ldT_apply]
  congr 1
  funext a
  apply Fin.ext
  fin_cases a
  · exact (emb_val inb p.1 p.2).1
  · exact (emb_val inb p.1 p.2).2

theorem ent_at (h0 : o0 % 128 = 0) (h1 : o1 % 128 = 0) (r c : Fin 128) :
    ent (ldT arg1 harg1 x inb) = tileAt x ((Rect.unit (s := S896x1536) ![o0, o1] S128x128.size inb).emb (ix2 r c)) := by
  obtain ⟨e0, e1⟩ := emb_val inb r c
  refine ent_ld arg1 harg1 x inb _ _ ?_ ?_
  · dsimp only; rw [e0]; omega
  · dsimp only; rw [e1]; omega

/-- A tile's codes are the block's codes at its entries. -/
theorem codes_ld (h0 : o0 % 128 = 0) (h1 : o1 % 128 = 0) (y : (Rect.unit (s := S896x1536) ![o0, o1] S128x128.size inb).shape.Idx) :
    codeB x ((Rect.unit (s := S896x1536) ![o0, o1] S128x128.size inb).emb y) = codes (ldT arg1 harg1 x inb) y := by
  obtain ⟨r, c, rfl⟩ : ∃ r c : Fin 128, y = ix2 r c := ⟨y 0, y 1, by funext a; fin_cases a <;> rfl⟩
  rw [codes_apply, ent_at arg1 harg1 x inb h0 h1 r c, ldT_apply]
  rfl

/-- A tile's dequantised values are the block's at its entries. -/
theorem values_ld (h0 : o0 % 128 = 0) (h1 : o1 % 128 = 0) (y : (Rect.unit (s := S896x1536) ![o0, o1] S128x128.size inb).shape.Idx) :
    valueB x ((Rect.unit (s := S896x1536) ![o0, o1] S128x128.size inb).emb y) = values (ldT arg1 harg1 x inb) y := by
  obtain ⟨r, c, rfl⟩ : ∃ r c : Fin 128, y = ix2 r c := ⟨y 0, y 1, by funext a; fin_cases a <;> rfl⟩
  unfold valueB
  rw [codes_ld arg1 harg1 x inb h0 h1, values_apply, codes_apply, ent_at arg1 harg1 x inb h0 h1 r c]

/-- The scales of the block's tile row `r`. -/
def rowS (r : Fin 7) : FVec Ideal S1x12 .f32 :=
  lanes k0_pay5 fun g => k0_pay7 (ldT (o0 := r.val * 128) (o1 := g.val * 128) arg1 harg1 x (by
    intro a; fin_cases a
    · show r.val * 128 + 128 ≤ 896; omega
    · show g.val * 128 + 128 ≤ 1536; omega))

theorem rowS_apply (r : Fin 7) (z : Fin 1) (g : Fin 12) : rowS arg1 harg1 x r (ix2 z g) = scaleK (quot (tileB x r g)) := by
  unfold rowS
  rw [lanes_apply, pay7, ent_ld arg1 harg1 x _ r g rfl rfl]

end

/-! ## The pieces -/

variable (c : Dev nD) (i : grid0.Coords) (arg1 : Memref sig .tc .vmem S896x1536 .bf16) (harg1 : arg1.IsWhole) (arg2 : Memref sig .tc .vmem S896x1536 .fp8e4m3) (harg2 : arg2.IsWhole) (arg3 : Memref sig .tc .vmem S70x12 .f32) (harg3 : arg3.IsWhole) (arg4 : Memref sig .tc .vmem S896x1536 .bf16) (harg4 : arg4.IsWhole)
    (x : Vec Ideal S896x1536 .bf16) (X : Vec Ideal S70x12 .f32)

/-- The codes' pieces are blocks of the block's codes. -/
theorem codes_pieces : View.PiecesOf (codeB x) (bodyRun c i arg1 harg1 arg2 harg2 arg3 harg3 arg4 harg4 x X).1 := by
  unfold bodyRun
  dsimp only
  repeat' apply And.intro
  all_goals first | trivial | (intro y; refine Eq.symm (codes_ld arg1 harg1 x _ ?_ ?_ y) <;> rfl)

/-- The dequantised values' pieces are blocks of the block's. -/
theorem values_pieces : View.PiecesOf (valueB x) (bodyRun c i arg1 harg1 arg2 harg2 arg3 harg3 arg4 harg4 x X).2.2.1 := by
  unfold bodyRun
  dsimp only
  repeat' apply And.intro
  all_goals first | trivial | (intro y; refine Eq.symm (values_ld arg1 harg1 x _ ?_ ?_ y) <;> rfl)

/-- The scales' pieces: row by row, the tiles' scales. -/
theorem scales_pieces : (bodyRun c i arg1 harg1 arg2 harg2 arg3 harg3 arg4 harg4 x X).2.1
    = [⟨Rect.unit (s := S70x12) (k0_off1 i 6#32) S1x12.size (k0_off1_inb i 6), rowS arg1 harg1 x 6⟩,
       ⟨Rect.unit (s := S70x12) (k0_off1 i 5#32) S1x12.size (k0_off1_inb i 5), rowS arg1 harg1 x 5⟩,
       ⟨Rect.unit (s := S70x12) (k0_off1 i 4#32) S1x12.size (k0_off1_inb i 4), rowS arg1 harg1 x 4⟩,
       ⟨Rect.unit (s := S70x12) (k0_off1 i 3#32) S1x12.size (k0_off1_inb i 3), rowS arg1 harg1 x 3⟩,
       ⟨Rect.unit (s := S70x12) (k0_off1 i 2#32) S1x12.size (k0_off1_inb i 2), rowS arg1 harg1 x 2⟩,
       ⟨Rect.unit (s := S70x12) (k0_off1 i 1#32) S1x12.size (k0_off1_inb i 1), rowS arg1 harg1 x 1⟩,
       ⟨Rect.unit (s := S70x12) (k0_off1 i 0#32) S1x12.size (k0_off1_inb i 0), rowS arg1 harg1 x 0⟩] := by
  unfold bodyRun
  rfl

end Cert.QuantWIdeal.Val

end
-- ==== Proof.WVal.lean ====
/- The weight quantiser's body at any grid point, by value: what it leaves in each output buffer. The scales' buffer is kept
   from point to point, so of it the rows written so far are stated. -/
module

public import proofs.«01_k».proof.Proof.WBlock
public import proofs.«01_k».proof.Proof.WFrame
public import Idealize.ShloMosaic.Lib.Pipeline.DatRel
public import Idealize.ShloMosaic.Lib.WritesUnit

@[expose] public section

set_option maxRecDepth 16384

noncomputable section

namespace Cert.QuantWIdeal.Res

open Cert.QuantWIdeal Cert.QuantWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Scale
open Cert.QuantWIdeal.Val hiding frame

local notation "𝕄" => MT nD τ sig Unit (Elt Ideal) ℕ (UR sig nD τ) ℕ

variable (m : (ℓ : Loc nD τ sig) → Buf (Elt Ideal) ℓ) (ρ : Dev nD → PrngReg)

/-- The weights. -/
def W (c : Dev nD) : Fin 8960 → Fin 1536 → EReal := fun n k => m ((c : Thread nD τ).loc main_arg0) (ix2 n k)

/-- The windows' block indices, decided over the grid. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, win0_0.index t = ![t.val, 0] ∧ win0_1.index t = ![t.val, 0] ∧ win0_2.index t = ![0, 0]
    ∧ win0_3.index t = ![t.val, 0])

/-- Row `r` of block `t` in the weights. -/
abbrev rowOf (t : Fin cfg0.N) (r : Fin 896) : Fin 8960 := ⟨t.val * 896 + r.val, by have : t.val < 10 := t.isLt; omega⟩

/-- Tile row `r` of block `t` in the scales. -/
abbrev tileRow (t : Fin cfg0.N) (r : Fin 7) : Fin 70 := ⟨t.val * 7 + r.val, by have : t.val < 10 := t.isLt; omega⟩

theorem iblk0 (c : Dev nD) (t : Fin cfg0.N) (r : Fin 896) (k : Fin 1536) : iblk m c 0 t (ix2 r k) = W m c (rowOf t r) k := by
  unfold W
  blk_ext [iblk, V, idx t]

theorem tileB_iblk (c : Dev nD) (t : Fin cfg0.N) (r : Fin 7) (g : Fin 12) :
    tileB (iblk m c 0 t) r g = wTile (W m c) (tileRow t r) g := by
  funext p
  refine (iblk0 m c t _ _).trans ?_
  unfold wTile
  congr 1
  exact Fin.ext (by dsimp only; omega)

/-- The scales' row offsets, decided over the grid. -/
theorem off (t : Fin cfg0.N) (r : Fin 7) : k0_off1 (grid0.coords t) (BitVec.ofNat 32 r.val) = ![t.val * 7 + r.val, 0] :=
  (by decide +kernel : ∀ (t : Fin grid0.N) (r : Fin 7), k0_off1 (grid0.coords t) (BitVec.ofNat 32 r.val) = ![t.val * 7 + r.val, 0]) t r

/-! ## What the body leaves -/

/-- The scales' rows up to block `t`'s last hold the tiles' scales. -/
def UpTo (c : Dev nD) (t : ℕ) (X : Vec Ideal S70x12 .f32) : Prop :=
  ∀ (r : Fin 70) (g : Fin 12), r.val < t * 7 → X (ix2 r g) = scaleK (quot (wTile (W m c) r g))

/-- What the body leaves in each output window at point `t`. -/
def Rl (c : Dev nD) (w : Fin cfg0.W) (t : Fin cfg0.N) (X : (cfg0.win w).block.Idx → Elt Ideal (cfg0.win w).elt) : Prop :=
  match w, X with
  | ⟨0, _⟩, _ => True
  | ⟨1, _⟩, X => X = codeB (iblk m c 0 t)
  | ⟨2, _⟩, X => UpTo m c (t.val + 1) X
  | ⟨3, _⟩, X => X = valueB (iblk m c 0 t)

/-- The exact data with the outputs held to `Rl`. -/
abbrev rdats (c : Dev nD) : Pipeline.RDat τ (Elt Ideal) Unit ℕ (UR sig nD τ) ℕ cfg0 c := (dats m 0 c).toRRel forgets0 (Rl m c)

/-- The scales' buffer as the body finds it holds the earlier points' rows. -/
theorem found2 (c : Dev nD) (t : Fin cfg0.N) (Y) (h : (rdats m c).Finds 2 t Y) : UpTo m c t.val Y := by
  by_cases h0 : t.val = 0
  · intro r g hr
    rw [h0] at hr
    omega
  · have hN : t.val < 10 := t.isLt
    rcases ((rdats m c).finds_of_pos (w := 2) (t := t) rfl h0 Y).1 h with hf | hl
    · have := (flush0_2 ⟨t.val - 1, by have := t.isLt; omega⟩).1 hf
      dsimp only at this
      omega
    · have e := (dats m 0 c).toRRel_leaves (fgt := forgets0) (Rl := Rl m c) (w := 2) rfl hl
      intro r g hr
      exact e r g (by dsimp only; omega)

/-- The rows the body writes into the scales' buffer, over the earlier points'. -/
theorem rows2 (c : Dev nD) (t : Fin cfg0.N) (arg1 : Memref sig .tc .vmem S896x1536 .bf16) (harg1 : arg1.IsWhole) (arg2 : Memref sig .tc .vmem S896x1536 .fp8e4m3) (harg2 : arg2.IsWhole) (arg3 : Memref sig .tc .vmem S70x12 .f32) (harg3 : arg3.IsWhole) (arg4 : Memref sig .tc .vmem S896x1536 .bf16) (harg4 : arg4.IsWhole)
    (Y : Vec Ideal S70x12 .f32) (hY : UpTo m c t.val Y) :
    UpTo m c (t.val + 1) (arg3.view.read (Elt Ideal) (arg3.view.writes (Elt Ideal) (harg3.unread Y)
      (bodyRun c (grid0.coords t) arg1 harg1 arg2 harg2 arg3 harg3 arg4 harg4 (iblk m c 0 t) Y).2.1)) := by
  intro r g hr
  rw [scales_pieces]
  have hin : ∀ (q : Fin 7) (inb) (L : List (View.Piece (Elt Ideal) S70x12 .f32)),
      (r.val < t.val * 7 + q.val → arg3.view.read (Elt Ideal) (arg3.view.writes (Elt Ideal) (harg3.unread Y) L) (ix2 r g) = scaleK (quot (wTile (W m c) r g))) →
      r.val < t.val * 7 + q.val + 1 →
      arg3.view.read (Elt Ideal) (arg3.view.writes (Elt Ideal) (harg3.unread Y)
        (⟨Rect.unit (s := S70x12) (k0_off1 (grid0.coords t) (BitVec.ofNat 32 q.val)) S1x12.size inb, rowS arg1 harg1 (iblk m c 0 t) q⟩ :: L)) (ix2 r g)
        = scaleK (quot (wTile (W m c) r g)) := by
    intro q inb L hL hq
    by_cases e : r.val < t.val * 7 + q.val
    · refine (View.read_writes_cons_rows_of_not_mem (W := 1) _ _ inb _ L _ (off t q) rfl (.inl e)).trans (hL e)
    · have er : r = tileRow t q := Fin.ext (by dsimp only; omega)
      refine (View.read_writes_cons_rows_of_mem _ _ inb _ L _ (ix2 0 g) (off t q) ?_ rfl).trans ?_
      · show r.val = t.val * 7 + q.val + 0
        omega
      · refine (rowS_apply arg1 harg1 (iblk m c 0 t) q 0 g).trans ?_
        rw [tileB_iblk, er]
  refine hin 6 _ _ (hin 5 _ _ (hin 4 _ _ (hin 3 _ _ (hin 2 _ _ (hin 1 _ _ (hin 0 _ _ (fun h => ?_))))))) (by show r.val < t.val * 7 + 6 + 1; omega)
  rw [View.writes_nil, Memref.IsWhole.read_unread]
  exact hY r g h

/-! ## The body obligation -/

/-- What the body is called with at point `t`, the outputs' contents possibly those of the point before, -/
def bodyPreR (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ Y, ⌜(rdats m c).Finds 1 t Y⌝ ∗ owns (c : Thread nD τ) (ms0_1 t) fullShare Y)
    ∗ (∃ Y, ⌜(rdats m c).Finds 2 t Y⌝ ∗ owns (c : Thread nD τ) (ms0_2 t) fullShare Y)
    ∗ (∃ Y, ⌜(rdats m c).Finds 3 t Y⌝ ∗ owns (c : Thread nD τ) (ms0_3 t) fullShare Y))

/-- and what it returns. -/
def bodyPostR (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ X, ⌜Rl m c 1 t X⌝ ∗ owns (c : Thread nD τ) (ms0_1 t) fullShare X)
    ∗ (∃ X, ⌜Rl m c 2 t X⌝ ∗ owns (c : Thread nD τ) (ms0_2 t) fullShare X)
    ∗ (∃ X, ⌜Rl m c 3 t X⌝ ∗ owns (c : Thread nD τ) (ms0_3 t) fullShare X))

/-- The body at any point. -/
theorem sound_bodyR (c : Dev nD) (t : Fin cfg0.N) :
    bodyPreR m c t ⊢ wp frame (wpE (defs₀ (F := Ideal)) Variants.none c none) Set.univ (bodyAt0 t) (fun _ => bodyPostR m c t) := by
  unfold bodyPreR bodyPostR bodyAt0
  simp only [before0_0]
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%d1, %h1, H1⟩, ⟨%d2, %h2, H2⟩, ⟨%d3, %h3, H3⟩⟩
  iapply ((bodyRun c (grid0.coords t) _ _ _ _ _ _ _ _ (iblk m c 0 t) d2).2.2.2 Set.univ _)
  isplitl [H0]; · iexact H0
  isplitl [H1]; · iexists _; iexact H1
  isplitl [H2]; · iexact H2
  isplitl [H3]; · iexists _; iexact H3
  iintro ⟨H0, ⟨%e1, H1⟩, H2, ⟨%e3, H3⟩⟩
  isplitl [HΦ]; · iexact HΦ
  isplitl [Ho]; · iexact Ho
  isplitl [H0]; · iexact H0
  isplitl [H1]
  · iexists codeB (iblk m c 0 t); isplitr
    · ipureintro; rfl
    unfold owns; iexists _; isplitr
    swap; · iexact H1
    ipureintro
    funext y
    refine View.read_writes_apply_of_pieces _ _ _ _ (codes_pieces ..).mem y ?_
    exact View.cover_of_tiledL (s := S896x1536) _ S128x128.size (by sl_kernel_rfl) y
  isplitl [H2]
  · iexists _; isplitr
    swap
    · unfold owns; iexists _; isplitr
      swap; · iexact H2
      ipureintro; rfl
    ipureintro
    exact rows2 m c t (ms0_0 t) (hs0_0 t) (ms0_1 t) (hs0_1 t) (ms0_2 t) (hs0_2 t) (ms0_3 t) (hs0_3 t) d2 (found2 m c t d2 h2)
  iexists valueB (iblk m c 0 t); isplitr
  · ipureintro; rfl
  unfold owns; iexists _; isplitr
  swap; · iexact H3
  ipureintro
  funext y
  refine View.read_writes_apply_of_pieces _ _ _ _ (values_pieces ..).mem y ?_
  exact View.cover_of_tiledL (s := S896x1536) _ S128x128.size (by sl_kernel_rfl) y

/-- The library's body obligation, at every point. -/
theorem body_obligationR (c : Dev nD) :
    Pipeline.BodyObligationRel (dats m 0 c) (defs₀ (F := Ideal)) Variants.none () Set.univ forgets0 (Rl m c) := fun t => by
  rw [bigSep_W0, bigSep_W0, defs₀_row]
  exact triple_restated (sound_bodyR m c t) rfl .rfl fun _ => .rfl

end Cert.QuantWIdeal.Res

end
-- ==== Proof.WArrays.lean ====
/- The weight quantiser's three output arrays after its run, as functions of the weights. -/
module

public import proofs.«01_k».proof.Proof.WVal
public import Idealize.ShloMosaic.Lib.Pipeline.ArrRel

@[expose] public section

set_option maxRecDepth 16384

noncomputable section

namespace Cert.QuantWIdeal.Res

open Cert.QuantWIdeal Cert.QuantWIdeal.Gen Idealize.ShloMosaic Idealize.ShloMosaic.TcCoe Idealize.SL.Sem
open Cert.Scale
open Cert.QuantWIdeal.Val hiding frame

variable (m : (ℓ : Loc nD τ sig) → Buf (Elt Ideal) ℓ) (ρ : Dev nD → PrngReg)

-- the launch theorem's implicit arguments are found by unifying its conclusion with this one, which takes unfolding plain
-- definitions in a metavariable's type
set_option backward.isDefEq.respectTransparency.types false in
/-- The run, the output arrays known by what each point may have left in their blocks. -/
theorem run_rel : θ_run defs (onTc (τ := τ) (main (F := Ideal))) (s₀ m ρ) (Pipeline.RDat.FramePost (cfgs 0) (rdats m) (V m)) :=
  Pipeline.RDat.θ_run_frame cfgs (0 : Fin 1) launch0 defs₀ Variants.none (rdats m) m ρ main
    (hbody := fun c => (body_obligationR m c).toRRel) (hshare := fun c => (dats m 0 c).share_full fun _ => rfl)
    (howed := fun _ _ => rfl) (V := V m) (hmain := hmain m Variants.none) (hA := A_eq m) (hΦ := fun _ _ => rfl)

/-! ## Where a block's entries lie -/

theorem emb1 (t : Fin cfg0.N) (r : Fin 896) (k : Fin 1536) :
    ((View.whole main_v0_0).slice (win0_1.rect t)).emb (ix2 r k) = ix2 (rowOf t r) k := by
  blk_ext [idx t]

theorem emb2 (t : Fin cfg0.N) (r : Fin 70) (g : Fin 12) :
    ((View.whole main_v0_1).slice (win0_2.rect t)).emb (ix2 r g) = ix2 r g := by
  blk_ext [idx t]

theorem emb3 (t : Fin cfg0.N) (r : Fin 896) (k : Fin 1536) :
    ((View.whole main_v0_2).slice (win0_3.rect t)).emb (ix2 r k) = ix2 (rowOf t r) k := by
  blk_ext [idx t]

/-! ## The blocks -/

theorem tileAt_iblk (c : Dev nD) (t : Fin cfg0.N) (r : Fin 896) (k : Fin 1536) :
    tileAt (iblk m c 0 t) (ix2 r k) = wTile (W m c) (rowTile (rowOf t r)) (colGrp k) := by
  refine (tileB_iblk m c t _ _).trans ?_
  congr 1
  exact Fin.ext (by show t.val * 7 + r.val / 128 = (t.val * 896 + r.val) / 128; omega)

theorem codeB_iblk (c : Dev nD) (t : Fin cfg0.N) (r : Fin 896) (k : Fin 1536) :
    codeB (iblk m c 0 t) (ix2 r k) = wCodeK (W m c) (rowOf t r) k := by
  unfold codeB wCodeK
  rw [tileAt_iblk, iblk0]

theorem valueB_iblk (c : Dev nD) (t : Fin cfg0.N) (r : Fin 896) (k : Fin 1536) :
    valueB (iblk m c 0 t) (ix2 r k) = wDeqK (W m c) (rowOf t r) k := by
  unfold valueB wDeqK
  rw [codeB_iblk, tileAt_iblk]

/-! ## The arrays -/

section
variable {c : Dev nD} {after : (w : Fin cfg0.W) → Fin cfg0.N → (cfg0.win w).block.Idx → Elt Ideal (cfg0.win w).elt}
variable (hL : ∀ (w : Fin cfg0.W) (u : Fin cfg0.N), (cfg0.win w).flush u = true → (rdats m c).Leaves w u (after w u))
include hL

/-- The codes. -/
theorem arr1 : ((rdats m c).withAfter after).arrAt 1 cfg0.N = fun y : S8960x1536.Idx => wCodeK (W m c) (y 0) (y 1) := by
  refine ((rdats m c).withAfter after).arrAt_eq_of_covers 1 _ (by decide +kernel) fun t hf y => ?_
  have e : after 1 t = codeB (iblk m c 0 t) := (dats m 0 c).toRRel_leaves (w := 1) rfl (hL 1 t hf)
  blk_simp
  rw [Pipeline.RDat.withAfter_after, e]
  idx_vars y
  refine (codeB_iblk m c t y0 y1).trans ?_
  rw [emb1]
  rfl

/-- The scales. -/
theorem arr2 : ((rdats m c).withAfter after).arrAt 2 cfg0.N = fun y : S70x12.Idx => scaleK (quot (wTile (W m c) (y 0) (y 1))) := by
  refine ((rdats m c).withAfter after).arrAt_eq_of_covers 2 _ (by decide +kernel) fun t hf y => ?_
  have e : UpTo m c (t.val + 1) (after 2 t) := (dats m 0 c).toRRel_leaves (w := 2) rfl (hL 2 t hf)
  have ht := (flush0_2 t).1 hf
  blk_simp
  rw [Pipeline.RDat.withAfter_after]
  idx_vars y
  refine (e y0 y1 (by have : y0.val < 70 := y0.isLt; omega)).trans ?_
  rw [emb2]
  rfl

/-- The dequantised weights. -/
theorem arr3 : ((rdats m c).withAfter after).arrAt 3 cfg0.N = fun y : S8960x1536.Idx => wDeqK (W m c) (y 0) (y 1) := by
  refine ((rdats m c).withAfter after).arrAt_eq_of_covers 3 _ (by decide +kernel) fun t hf y => ?_
  have e : after 3 t = valueB (iblk m c 0 t) := (dats m 0 c).toRRel_leaves (w := 3) rfl (hL 3 t hf)
  blk_simp
  rw [Pipeline.RDat.withAfter_after, e]
  idx_vars y
  refine (valueB_iblk m c t y0 y1).trans ?_
  rw [emb3]
  rfl

end

/-- The run. -/
theorem run : θ_run defs (onTc (τ := τ) (main (F := Ideal))) ⟨m, fun _ => 0, ρ⟩ fun r => ∀ c : Dev nD,
      r.2.mem ((c : Thread nD τ).loc main_v0_0) = (fun y : S8960x1536.Idx => wCodeK (W m c) (y 0) (y 1))
      ∧ r.2.mem ((c : Thread nD τ).loc main_v0_1) = (fun y : S70x12.Idx => scaleK (quot (wTile (W m c) (y 0) (y 1))))
      ∧ r.2.mem ((c : Thread nD τ).loc main_v0_2) = (fun y : S8960x1536.Idx => wDeqK (W m c) (y 0) (y 1))
      ∧ r.2.mem ((c : Thread nD τ).loc main_arg0) = m ((c : Thread nD τ).loc main_arg0) := by
  refine (θ_run defs _ _).mono (fun r h c => ?_) (run_rel m ρ)
  obtain ⟨after, hL, hA⟩ := Pipeline.RDat.FramePost.exists_exact h c
  exact ⟨(hA 1).trans (arr1 m hL), (hA 2).trans (arr2 m hL), (hA 3).trans (arr3 m hL),
    (Pipeline.RDat.FramePost.arr_in h c 0 rfl).trans ((A_eq m c 0).trans (V_main_arg0 m c))⟩

end Cert.QuantWIdeal.Res

end
-- ==== Proof.RefWPay.lean ====
/- The payloads of the weight quantiser's reference read at an index: the scales, the codes and the dequantised weights as
   functions of the weights. -/
module

public import proofs.«01_k».proof.Proof.Gen.ReferenceWIdeal.Value
public import proofs.«01_k».proof.Proof.RefPay

@[expose] public section

set_option maxRecDepth 16384

noncomputable section

namespace Cert.ReferenceWIdeal.Val

open Cert.ReferenceWIdeal Cert.ReferenceWIdeal.Gen Idealize.ShloMosaic Idealize.ShloMosaic.TcCoe Idealize.SL.Sem
open Cert.Scale
open Cert.ReferenceIdeal.Val (quot_apply exp2_apply inv_apply clip_apply)

/-- The exponent's chain of vector operations, one entry at a time. -/
theorem expo_apply {s : Shape} (t : FVec Ideal s .f32) (i : s.Idx) :
    select (andi (cmpf .oge t (broadcast s (Scalar.ofBits .f32 0x00800000#32))) (cmpf .olt t (broadcast s (Scalar.ofBits .f32 0x7F800000#32))))
      (addf (floor (divf (log t) (broadcast s (Named.named κ "ln2" 0x3F317218#32)))) (broadcast s (Scalar.ofBits .f32 0x3F800000#32)))
      (broadcast s (Scalar.ofBits .f32 0x00000000#32)) i = expoR (t i) := rfl

/-! ## Layout -/

/-- The indices that a tile's maximum ranges over. -/
theorem fiber (r : Fin 70) (g : Fin 12) (i : S70x128x12x128.Idx) :
    reduces_S70x128x12x128_S70x12.drop i = ix2 r g ↔ ∃ p : Fin 128 × Fin 128, ix4 r p.1 g p.2 = i := by
  have h0 : (reduces_S70x128x12x128_S70x12.drop i 0).val = (i 0).val := Shape.Reduces.drop_apply_val_of_eq _ i 0 0
  have h1 : (reduces_S70x128x12x128_S70x12.drop i 1).val = (i 2).val := Shape.Reduces.drop_apply_val_of_eq _ i 1 2
  constructor
  · intro e
    rw [e] at h0 h1
    refine ⟨(i 1, i 3), funext fun a => Fin.ext ?_⟩
    fin_cases a
    · exact h0
    · rfl
    · exact h1
    · rfl
  · rintro ⟨p, rfl⟩
    funext a
    apply Fin.ext
    fin_cases a
    · exact h0
    · exact h1

/-- The maximum over the entries of a tile. -/
theorem reduce (v : FVec Ideal S70x128x12x128 .f32) (r : Fin 70) (g : Fin 12) :
    (multiReduction .maximumf [1, 3] S70x12 v 0xFF800000#32 reduces_S70x128x12x128_S70x12 (.inl rfl) rfl : FVec Ideal S70x12 .f32) (ix2 r g)
      = Finset.univ.fold max (Ideal.ofBits .f32 0xFF800000#32) (fun p : Fin 128 × Fin 128 => v (ix4 r p.1 g p.2)) := by
  pointwise
  exact Finset.fold_filter_eq_fold_of_fiber max _ (fun p : Fin 128 × Fin 128 => (ix4 r p.1 g p.2 : S70x128x12x128.Idx))
    (fun _ _ e => Prod.ext (congrFun e 1) (congrFun e 3)) (fiber r g) _ v

/-- The tiled array laid flat. -/
theorem flat {α : Type} (v : S70x128x12x128.Idx → α) (r : Fin 8960) (c : Fin 1536) :
    shapeCast S8960x1536 v shapeCasts_S70x128x12x128_S8960x1536 (ix2 r c)
      = v (ix4 ⟨r.val / 128, by omega⟩ ⟨r.val % 128, by omega⟩ ⟨c.val / 128, by omega⟩ ⟨c.val % 128, by omega⟩) := by
  pointwise

/-- The flat array tiled. -/
theorem tiled {α : Type} (v : S8960x1536.Idx → α) (r : Fin 70) (i : Fin 128) (g : Fin 12) (k : Fin 128) :
    shapeCast S70x128x12x128 v shapeCasts_S8960x1536_S70x128x12x128 (ix4 r i g k)
      = v (ix2 ⟨r.val * 128 + i.val, by omega⟩ ⟨g.val * 128 + k.val, by omega⟩) := by
  pointwise

/-- One value per tile spread over the tile. -/
theorem spread {α : Type} (v : S70x12.Idx → α) (r : Fin 70) (i : Fin 128) (g : Fin 12) (k : Fin 128) :
    broadcastTo S70x128x12x128 (shapeCast S70x1x12x1 v shapeCasts_S70x12_S70x1x12x1) broadcasts_S70x1x12x1_S70x128x12x128 (ix4 r i g k)
      = v (ix2 r g) := by
  pointwise

/-! ## The payloads -/

/-- The weights as rows and columns. -/
abbrev mat (v : Vec Ideal S8960x1536 .bf16) : Fin 8960 → Fin 1536 → EReal := fun r k => v (ix2 r k)

theorem pay1 (v : Vec Ideal S8960x1536 .bf16) (r : Fin 70) (i : Fin 128) (g : Fin 12) (k : Fin 128) :
    k0_pay1 v (ix4 r i g k) = wTile (mat v) r g (i, k) := by
  unfold k0_pay1
  pointwise

theorem pay2 (v : Vec Ideal S8960x1536 .bf16) (r : Fin 70) (g : Fin 12) :
    k0_pay2 v (ix2 r g) = expoR (quot (wTile (mat v) r g)) := by
  unfold k0_pay2
  refine (expo_apply _ _).trans ?_
  rw [quot_apply, reduce]
  unfold quot groupMax
  have h : (fun p : Fin 128 × Fin 128 => absf (k0_pay1 v) (ix4 r p.1 g p.2))
      = fun p => FloatOps.absf (F := Ideal) (φ := .bf16) (wTile (mat v) r g p) := by
    funext p
    exact congrArg (FloatOps.absf (F := Ideal) (φ := .bf16)) (pay1 v r p.1 g p.2)
  rw [h]

theorem pay3 (v : Vec Ideal S8960x1536 .bf16) (r : Fin 70) (g : Fin 12) :
    k0_pay3 v (ix2 r g) = scaleR (quot (wTile (mat v) r g)) := by
  unfold k0_pay3 scaleR
  rw [exp2_apply, pay2]

theorem pay4 (v : Vec Ideal S8960x1536 .bf16) (r : Fin 8960) (c : Fin 1536) :
    k0_pay4 v (ix2 r c) = wCodeR (mat v) r c := by
  unfold k0_pay4
  refine (flat _ r c).trans ?_
  refine (clip_apply _ _ _).trans ?_
  rw [pay1, spread, inv_apply, pay2]
  have h0 : (⟨r.val / 128 * 128 + r.val % 128, by omega⟩ : Fin 8960) = r := Fin.ext (by dsimp only; omega)
  have h1 : (⟨c.val / 128 * 128 + c.val % 128, by omega⟩ : Fin 1536) = c := Fin.ext (by dsimp only; omega)
  have ht : ∀ x y, clip (wTile (mat v) (rowTile r) (colGrp c) (⟨r.val % 128, x⟩, ⟨c.val % 128, y⟩)) = clip (mat v r c) :=
    fun _ _ => congrArg clip (congrArg₂ (mat v) h0 h1)
  unfold wCodeR codeR invR
  exact congrFun (ht _ _) _

theorem pay5 (v : Vec Ideal S8960x1536 .bf16) (r : Fin 8960) (c : Fin 1536) :
    k0_pay5 v (ix2 r c) = wDeqR (mat v) r c := by
  have e : k0_pay5 v (ix2 r c) = k0_pay4 v (ix2 r c) * k0_pay3 v (ix2 ⟨r.val / 128, by omega⟩ ⟨c.val / 128, by omega⟩) := by
    unfold k0_pay5
    pointwise
  rw [e, pay4, pay3]
  rfl

end Cert.ReferenceWIdeal.Val

end
-- ==== Proof.RefWArrays.lean ====
/- The three results of the weight quantiser's reference after its run, as functions of the weights. -/
module

public import proofs.«01_k».proof.Proof.RefWPay

@[expose] public section

set_option maxRecDepth 16384

noncomputable section

namespace Cert.ReferenceWIdeal.Val

open Cert.ReferenceWIdeal Cert.ReferenceWIdeal.Gen Idealize.ShloMosaic Idealize.ShloMosaic.TcCoe Idealize.SL.Sem
open Cert.Scale

variable (m : (ℓ : Loc nD τ sig) → Buf (Elt Ideal) ℓ) (ρ : Dev nD → PrngReg)

/-- The weights. -/
def W (c : Dev nD) : Fin 8960 → Fin 1536 → EReal := fun n k => m ((c : Thread nD τ).loc main_arg0) (ix2 n k)

/-- The windows' block indices: one point, the whole arrays. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, win0_0.index t = ![0, 0] ∧ win0_1.index t = ![0, 0] ∧ win0_2.index t = ![0, 0]
    ∧ win0_3.index t = ![0, 0])

theorem iblk0 (c : Dev nD) (t : Fin cfg0.N) : mat (iblk m c 0 t) = W m c := by
  funext r k
  show iblk m c 0 t (ix2 r k) = _
  unfold W
  blk_ext [iblk, V, idx t]

theorem emb1 (t : Fin cfg0.N) (r : Fin 8960) (k : Fin 1536) :
    ((View.whole main_v0_0).slice (win0_1.rect t)).emb (ix2 r k) = ix2 r k := by
  blk_ext [idx t]

theorem emb2 (t : Fin cfg0.N) (r : Fin 70) (g : Fin 12) :
    ((View.whole main_v0_1).slice (win0_2.rect t)).emb (ix2 r g) = ix2 r g := by
  blk_ext [idx t]

theorem emb3 (t : Fin cfg0.N) (r : Fin 8960) (k : Fin 1536) :
    ((View.whole main_v0_2).slice (win0_3.rect t)).emb (ix2 r k) = ix2 r k := by
  blk_ext [idx t]

/-- The codes. -/
theorem arr1 (c : Dev nD) : (dats m 0 c).arrAt 1 cfg0.N = fun y : S8960x1536.Idx => wCodeR (W m c) (y 0) (y 1) := by
  refine (dats m 0 c).arrAt_eq_of_covers 1 _ (by decide +kernel) fun t hf y => ?_
  blk_simp
  rw [after0_1]
  frame_out
  idx_vars y
  refine (pay4 _ y0 y1).trans ?_
  rw [iblk0, emb1]
  rfl

/-- The scales. -/
theorem arr2 (c : Dev nD) : (dats m 0 c).arrAt 2 cfg0.N = fun y : S70x12.Idx => scaleR (quot (wTile (W m c) (y 0) (y 1))) := by
  refine (dats m 0 c).arrAt_eq_of_covers 2 _ (by decide +kernel) fun t hf y => ?_
  blk_simp
  rw [after0_2]
  frame_out
  idx_vars y
  refine (pay3 _ y0 y1).trans ?_
  rw [iblk0, emb2]
  rfl

/-- The dequantised weights. -/
theorem arr3 (c : Dev nD) : (dats m 0 c).arrAt 3 cfg0.N = fun y : S8960x1536.Idx => wDeqR (W m c) (y 0) (y 1) := by
  refine (dats m 0 c).arrAt_eq_of_covers 3 _ (by decide +kernel) fun t hf y => ?_
  blk_simp
  rw [after0_3]
  frame_out
  idx_vars y
  refine (pay5 _ y0 y1).trans ?_
  rw [iblk0, emb3]
  rfl

/-- The run. -/
theorem run : θ_run defs (onTc (τ := τ) (main (F := Ideal))) ⟨m, fun _ => 0, ρ⟩ fun r => ∀ c : Dev nD,
      r.2.mem ((c : Thread nD τ).loc main_v0_0) = (fun y : S8960x1536.Idx => wCodeR (W m c) (y 0) (y 1))
      ∧ r.2.mem ((c : Thread nD τ).loc main_v0_1) = (fun y : S70x12.Idx => scaleR (quot (wTile (W m c) (y 0) (y 1))))
      ∧ r.2.mem ((c : Thread nD τ).loc main_v0_2) = (fun y : S8960x1536.Idx => wDeqR (W m c) (y 0) (y 1))
      ∧ r.2.mem ((c : Thread nD τ).loc main_arg0) = m ((c : Thread nD τ).loc main_arg0) :=
  (θ_run defs _ _).mono (fun r h c => ⟨(h c).1.trans (arr1 m c), (h c).2.1.trans (arr2 m c), (h c).2.2.1.trans (arr3 m c), (h c).2.2.2⟩)
    (Value.run_blocks m ρ)

end Cert.ReferenceWIdeal.Val

end
-- ==== Proof.WRange.lean ====
/- The range of the weights under the precondition, and what it gives: the kernel's codes, scales and dequantised weights are
   the textbook's. -/
module

public import proofs.«01_k».proof.Proof.Range
public import proofs.«01_k».proof.Pre_in_range_w
public import proofs.«01_k».proof.Proof.Gen.Pre_in_range_w

@[expose] public section

set_option maxRecDepth 16384

noncomputable section

namespace Cert.Scale

open Idealize.ShloMosaic

section
variable (A : Fin 8960 → Fin 1536 → EReal) (h : ∀ r k, InRange (A r k))
include h

theorem wScale_eq (r : Fin 70) (g : Fin 12) : scaleK (quot (wTile A r g)) = scaleR (quot (wTile A r g)) :=
  (agree_quot _ fun _ => h _ _).1

theorem wCode_eq (r : Fin 8960) (k : Fin 1536) : wCodeK A r k = wCodeR A r k := by
  unfold wCodeK wCodeR codeK codeR
  rw [(agree_quot _ fun _ => h _ _).2]

theorem wDeq_eq (r : Fin 8960) (k : Fin 1536) : wDeqK A r k = wDeqR A r k := by
  unfold wDeqK wDeqR
  rw [wCode_eq A h, wScale_eq A h]

end

instance : Subsingleton Cert.Pre_in_range_w.S_.Idx := ⟨fun a b => funext fun i => i.elim0⟩

/-- The precondition says that every weight is in range. -/
theorem inRange_of_pre_w (w : FVec Ideal Cert.Pre_in_range_w.S8960x1536 .bf16)
    (hp : Cert.Pre_in_range_w.fn (F := Ideal) w = fun _ => 1#1) (i : Cert.Pre_in_range_w.S8960x1536.Idx) : InRange (w i) := by
  have e := congrFun hp (Shape.Idx.first Cert.Pre_in_range_w.Gen.h_S_)
  dsimp only [Cert.Pre_in_range_w.fn] at e
  exact inRange_of_word _ (Host.reduce_andi_all _ _ _ _ _ e i)

end Cert.Scale

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.QuantW
public import proofs.«01_k».proof.Proof.Gen.QuantW.Skeleton
public import proofs.«01_k».proof.Proof.Gen.QuantW.Launch
public import proofs.«01_k».proof.Proof.Gen.QuantW.Points
public import proofs.«01_k».proof.Proof.Gen.QuantW.Frame
public import proofs.«01_k».proof.Proof.Gen.QuantWIdeal
public import proofs.«01_k».proof.Proof.Gen.QuantWIdeal.Skeleton
public import proofs.«01_k».proof.Proof.Gen.QuantWIdeal.Launch
public import proofs.«01_k».proof.Proof.Gen.QuantWIdeal.Points
public import proofs.«01_k».proof.Proof.Gen.QuantWIdeal.Frame
public import proofs.«01_k».proof.Proof.Gen.ReferenceWIdeal
public import proofs.«01_k».proof.Proof.Gen.ReferenceWIdeal.Skeleton
public import proofs.«01_k».proof.Proof.Gen.ReferenceWIdeal.Launch
public import proofs.«01_k».proof.Proof.Gen.ReferenceWIdeal.Points
public import proofs.«01_k».proof.Proof.Gen.ReferenceWIdeal.Frame
public import proofs.«01_k».proof.Proof.Gen.ReferenceWIdeal.Value
public import proofs.«01_k».proof.Proof.Gen.Pre_in_range_w
public import proofs.«01_k».proof.Proof.Arrays
public import proofs.«01_k».proof.Proof.RefArrays
public import proofs.«01_k».proof.Proof.Range
public import proofs.«01_k».proof.Proof.WPrinted
public import proofs.«01_k».proof.Proof.WArrays
public import proofs.«01_k».proof.Proof.RefWArrays
public import proofs.«01_k».proof.Proof.WRange
public import Idealize.ShloMosaic.Adequacy
public import Idealize.ShloMosaic.Init

@[expose] public section

noncomputable section

namespace Cert.Proof

open Idealize.ShloMosaic Idealize.SL.Sem Cert.Kernel

open Cert.Scale

/-- Every activation the kernel reads is in range, under the precondition. -/
theorem inRange (m : (ℓ : Loc Cert.KernelIdeal.nD Cert.KernelIdeal.τ Cert.KernelIdeal.sig) → Buf (Elt Ideal) ℓ)
    (hpre : Pre_KernelIdeal_in_range m) (c : Dev Cert.KernelIdeal.nD) (r : Fin 24576) (k : Fin 1536) :
    InRange (Cert.KernelIdeal.Val.X m c r k) :=
  inRange_of_pre _ _ (hpre c) _

/-- The kernel and the reference compute the same products, codes and scales over the extended reals. -/
theorem algebraic : algebraic_KernelIdeal_ReferenceIdeal_pre_in_range := by
  intro m g m' g' hpre hag
  have hX : ∀ c, Cert.ReferenceIdeal.Val.X m' c = Cert.KernelIdeal.Val.X m c := fun c => by
    unfold Cert.ReferenceIdeal.Val.X Cert.KernelIdeal.Val.X
    rw [(hag c).1]
  have hW : ∀ c, Cert.ReferenceIdeal.Val.W m' c = Cert.KernelIdeal.Val.W m c := fun c => by
    unfold Cert.ReferenceIdeal.Val.W Cert.KernelIdeal.Val.W
    rw [(hag c).2]
  refine ⟨_, _, _, Cert.KernelIdeal.Val.run m g, (θ_run _ _ _).mono (fun r h c => ?_) (Cert.ReferenceIdeal.Val.run m' g')⟩
  obtain ⟨h0, h1, h2, h3⟩ := h c
  rw [hX] at h0 h1 h2
  rw [hW] at h0
  refine ⟨h0.trans (funext fun y => ?_), h1.trans (funext fun y => ?_), h2.trans (funext fun y => ?_), h3⟩
  · exact (arrProd_eq _ (inRange m hpre c) _ (y 0) (y 1)).symm
  · exact (arrCode_eq _ (inRange m hpre c) (y 0) (y 1)).symm
  · exact (arrScale_eq _ (inRange m hpre c) (y 0) (y 1)).symm

/-- Every weight the quantiser reads is in range, under the precondition. -/
theorem inRangeW (m : (ℓ : Loc Cert.QuantWIdeal.nD Cert.QuantWIdeal.τ Cert.QuantWIdeal.sig) → Buf (Elt Ideal) ℓ)
    (hpre : Pre_QuantWIdeal_in_range_w m) (c : Dev Cert.QuantWIdeal.nD) (r : Fin 8960) (k : Fin 1536) :
    InRange (Cert.QuantWIdeal.Res.W m c r k) :=
  inRange_of_pre_w _ (hpre c) _

/-- The quantiser and its reference compute the same codes, scales and dequantised weights over the extended reals. -/
theorem algebraicW : algebraic_QuantWIdeal_ReferenceWIdeal_pre_in_range_w := by
  intro m g m' g' hpre hag
  have hW : ∀ c, Cert.ReferenceWIdeal.Val.W m' c = Cert.QuantWIdeal.Res.W m c := fun c => by
    unfold Cert.ReferenceWIdeal.Val.W Cert.QuantWIdeal.Res.W
    rw [hag c]
  refine ⟨_, _, _, Cert.QuantWIdeal.Res.run m g, (θ_run _ _ _).mono (fun r h c => ?_) (Cert.ReferenceWIdeal.Val.run m' g')⟩
  obtain ⟨h0, h1, h2, h3⟩ := h c
  rw [hW] at h0 h1 h2
  refine ⟨h0.trans (funext fun y => ?_), h1.trans (funext fun y => ?_), h2.trans (funext fun y => ?_), h3⟩
  · exact (wCode_eq _ (inRangeW m hpre c) (y 0) (y 1)).symm
  · exact (wScale_eq _ (inRangeW m hpre c) (y 0) (y 1)).symm
  · exact (wDeq_eq _ (inRangeW m hpre c) (y 0) (y 1)).symm

theorem claim : Cert.Claim := ⟨Cert.Kernel.Gen.facts, Cert.KernelIdeal.Gen.facts, Cert.ReferenceIdeal.Gen.facts,
  Cert.QuantW.Gen.facts, Cert.QuantWIdeal.Gen.facts, Cert.ReferenceWIdeal.Gen.facts, Cert.Pre_in_range.Gen.facts,
  Cert.Pre_in_range_w.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.QuantW.Val.frame m ρ, fun m ρ _ => Cert.QuantWIdeal.Val.frame m ρ, fun m ρ _ => Cert.QuantWIdeal.Val.frame m ρ,
  fun m ρ _ => Cert.ReferenceWIdeal.Gen.frame m ρ, fun m ρ _ => Cert.ReferenceWIdeal.Gen.frame m ρ,
  trivial, algebraic, trivial, algebraicW⟩

end Cert.Proof

end
